-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x4096x17x3 : Shape := ⟨4, ![32, 4096, 17, 3]⟩
abbrev S32x4096x17x2 : Shape := ⟨4, ![32, 4096, 17, 2]⟩
abbrev S_ : Shape := ⟨0, ![]⟩

class Facts : Prop where
  slices_S32x4096x17x3_S32x4096x17x2_0_0_0_0 : S32x4096x17x3.Slices ![0, 0, 0, 0] S32x4096x17x2
  bcast_S_S32x4096x17x2 : S_.BroadcastsInDim S32x4096x17x2 (![] : Fin 0 → Fin S32x4096x17x2.rank)

variable [Facts]

def fn {F : FTy → Type} [FloatOps F] (main_arg0 : FVec F S32x4096x17x3 .f32) : IVec S32x4096x17x2 1 :=
  let main_v0 : FVec F S32x4096x17x2 .f32 := (extractStridedSlice S32x4096x17x2 ![0, 0, 0, 0] · slices_S32x4096x17x3_S32x4096x17x2_0_0_0_0) main_arg0
  let main_v1 : FVec F S32x4096x17x2 .f32 := Host.absf main_v0
  let main_cst : FVec F S_ .f32 := constant S_ .f32 0x7F800000#32
  let main_v2 : FVec F S32x4096x17x2 .f32 := broadcastInDim S32x4096x17x2 ![] bcast_S_S32x4096x17x2 main_cst
  let main_v3 : IVec S32x4096x17x2 1 := cmpf .olt main_v1 main_v2
  main_v3
-- ==== Kernel.lean ====
abbrev S32x4096x17x3 : Shape := ⟨4, ![32, 4096, 17, 3]⟩
abbrev S32x4096x17x2 : Shape := ⟨4, ![32, 4096, 17, 2]⟩
abbrev S17x2x32x4096 : Shape := ⟨4, ![17, 2, 32, 4096]⟩
abbrev S17x2x32x7 : Shape := ⟨4, ![17, 2, 32, 7]⟩
abbrev S17x2x32x1 : Shape := ⟨4, ![17, 2, 32, 1]⟩
abbrev S17x2x32x8 : Shape := ⟨4, ![17, 2, 32, 8]⟩
abbrev S8x17x2x32 : Shape := ⟨4, ![8, 17, 2, 32]⟩
abbrev S8x17x2x32x1 : Shape := ⟨5, ![8, 17, 2, 32, 1]⟩
abbrev S32x4096 : Shape := ⟨2, ![32, 4096]⟩
abbrev S32x4094 : Shape := ⟨2, ![32, 4094]⟩
abbrev S32x4094x1 : Shape := ⟨3, ![32, 4094, 1]⟩
abbrev S17x2x32x512 : Shape := ⟨4, ![17, 2, 32, 512]⟩
abbrev S1x17x2x32x1 : Shape := ⟨5, ![1, 17, 2, 32, 1]⟩
abbrev S16x32x4096 : Shape := ⟨3, ![16, 32, 4096]⟩
abbrev S1x1x32x512 : Shape := ⟨4, ![1, 1, 32, 512]⟩
abbrev S32x512 : Shape := ⟨2, ![32, 512]⟩
abbrev S1x1x1x32x1 : Shape := ⟨5, ![1, 1, 1, 32, 1]⟩
abbrev S32x1 : Shape := ⟨2, ![32, 1]⟩
abbrev S32x511 : Shape := ⟨2, ![32, 511]⟩
abbrev S1x32x512 : Shape := ⟨3, ![1, 32, 512]⟩
abbrev S1x32x4096 : Shape := ⟨3, ![1, 32, 4096]⟩
abbrev S32x4095 : Shape := ⟨2, ![32, 4095]⟩
abbrev S32 : Shape := ⟨1, ![32]⟩
abbrev S32x2 : Shape := ⟨2, ![32, 2]⟩
abbrev S32x4 : Shape := ⟨2, ![32, 4]⟩
abbrev S32x4092 : Shape := ⟨2, ![32, 4092]⟩
abbrev S32x8 : Shape := ⟨2, ![32, 8]⟩
abbrev S32x4088 : Shape := ⟨2, ![32, 4088]⟩

abbrev nBuf : Space → Nat
  | .hbm => 13
  | .vmem => 7
  | .smem => 0
  | _ => 0

abbrev bufTy : (tb : Table) → Fin (tcTables nBuf tb) → BufTy
  | .hbm, ⟨0, _⟩ => ⟨S32x4096x17x3, .f32⟩
  | .hbm, ⟨1, _⟩ => ⟨S32x4096x17x2, .f32⟩
  | .hbm, ⟨2, _⟩ => ⟨S17x2x32x4096, .f32⟩
  | .hbm, ⟨3, _⟩ => ⟨S17x2x32x7, .f32⟩
  | .hbm, ⟨4, _⟩ => ⟨S17x2x32x1, .f32⟩
  | .hbm, ⟨5, _⟩ => ⟨S17x2x32x8, .f32⟩
  | .hbm, ⟨6, _⟩ => ⟨S8x17x2x32, .f32⟩
  | .hbm, ⟨7, _⟩ => ⟨S8x17x2x32x1, .f32⟩
  | .hbm, ⟨8, _⟩ => ⟨S32x4096, .i32⟩
  | .hbm, ⟨9, _⟩ => ⟨S32x4096, .f32⟩
  | .hbm, ⟨10, _⟩ => ⟨S32x4094, .i32⟩
  | .hbm, ⟨11, _⟩ => ⟨S32x4094, .f32⟩
  | .hbm, ⟨12, _⟩ => ⟨S32x4094x1, .f32⟩
  | .local _ .vmem, ⟨0, _⟩ => ⟨S17x2x32x512, .f32⟩
  | .local _ .vmem, ⟨1, _⟩ => ⟨S17x2x32x512, .f32⟩
  | .local _ .vmem, ⟨2, _⟩ => ⟨S1x17x2x32x1, .f32⟩
  | .local _ .vmem, ⟨3, _⟩ => ⟨S1x17x2x32x1, .f32⟩
  | .local _ .vmem, ⟨4, _⟩ => ⟨S32x4096, .i32⟩
  | .local _ .vmem, ⟨5, _⟩ => ⟨S32x4096, .f32⟩
  | .local _ .vmem, ⟨6, _⟩ => ⟨S16x32x4096, .f32⟩
  | _, _ => ⟨S32x4096x17x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_call0_v0_0 : Ref sig .tc := ⟨.hbm, 8, rfl⟩
abbrev main_call0_v0_1 : Ref sig .tc := ⟨.hbm, 9, rfl⟩
abbrev main_v7_0 : Ref sig .tc := ⟨.hbm, 10, rfl⟩
abbrev main_call0_v2 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let c0_422 : Index := 0#32
  let c0_423 : Index := 0#32
  let arg0 : BitVec 32 := BitVec.ofNat 32 (i 0).val
  let c512_i32 : BitVec 32 := 512#32
  let v747 : BitVec 32 := Scalar.muli arg0 c512_i32
  let v748 : Index := Scalar.indexCast v747
  ![0, 0, v748.toNat]
def k0_off2 (i : grid0.Coords) : Fin 3 → Nat :=
  let c1_458 : Index := 1#32
  let c0_459 : Index := 0#32
  let arg0 : BitVec 32 := BitVec.ofNat 32 (i 0).val
  let c512_i32_457 : BitVec 32 := 512#32
  let v836 : BitVec 32 := Scalar.muli arg0 c512_i32_457
  let v837 : Index := Scalar.indexCast v836
  ![1, 0, v837.toNat]
def k0_off3 (i : grid0.Coords) : Fin 3 → Nat :=
  let c2_494 : Index := 2#32
  let c0_495 : Index := 0#32
  let arg0 : BitVec 32 := BitVec.ofNat 32 (i 0).val
  let c512_i32_493 : BitVec 32 := 512#32
  let v925 : BitVec 32 := Scalar.muli arg0 c512_i32_493
  let v926 : Index := Scalar.indexCast v925
  ![2, 0, v926.toNat]
def k0_off4 (i : grid0.Coords) : Fin 3 → Nat :=
  let c3_530 : Index := 3#32
  let c0_531 : Index := 0#32
  let arg0 : BitVec 32 := BitVec.ofNat 32 (i 0).val
  let c512_i32_529 : BitVec 32 := 512#32
  let v1014 : BitVec 32 := Scalar.muli arg0 c512_i32_529
  let v1015 : Index := Scalar.indexCast v1014
  ![3, 0, v1015.toNat]
def k0_off5 (i : grid0.Coords) : Fin 3 → Nat :=
  let c4_566 : Index := 4#32
  let c0_567 : Index := 0#32
  let arg0 : BitVec 32 := BitVec.ofNat 32 (i 0).val
  let c512_i32_565 : BitVec 32 := 512#32
  let v1103 : BitVec 32 := Scalar.muli arg0 c512_i32_565
  let v1104 : Index := Scalar.indexCast v1103
  ![4, 0, v1104.toNat]
def k0_off6 (i : grid0.Coords) : Fin 3 → Nat :=
  let c5_602 : Index := 5#32
  let c0_603 : Index := 0#32
  let arg0 : BitVec 32 := BitVec.ofNat 32 (i 0).val
  let c512_i32_601 : BitVec 32 := 512#32
  let v1192 : BitVec 32 := Scalar.muli arg0 c512_i32_601
  let v1193 : Index := Scalar.indexCast v1192
  ![5, 0, v1193.toNat]
def k0_off7 (i : grid0.Coords) : Fin 3 → Nat :=
  let c6_638 : Index := 6#32
  let c0_639 : Index := 0#32
  let arg0 : BitVec 32 := BitVec.ofNat 32 (i 0).val
  let c512_i32_637 : BitVec 32 := 512#32
  let v1281 : BitVec 32 := Scalar.muli arg0 c512_i32_637
  let v1282 : Index := Scalar.indexCast v1281
  ![6, 0, v1282.toNat]
def k0_off8 (i : grid0.Coords) : Fin 3 → Nat :=
  let c7_674 : Index := 7#32
  let c0_675 : Index := 0#32
  let arg0 : BitVec 32 := BitVec.ofNat 32 (i 0).val
  let c512_i32_673 : BitVec 32 := 512#32
  let v1370 : BitVec 32 := Scalar.muli arg0 c512_i32_673
  let v1371 : Index := Scalar.indexCast v1370
  ![7, 0, v1371.toNat]
def k0_off9 (i : grid0.Coords) : Fin 3 → Nat :=
  let c8_710 : Index := 8#32
  let c0_711 : Index := 0#32
  let arg0 : BitVec 32 := BitVec.ofNat 32 (i 0).val
  let c512_i32_709 : BitVec 32 := 512#32
  let v1459 : BitVec 32 := Scalar.muli arg0 c512_i32_709
  let v1460 : Index := Scalar.indexCast v1459
  ![8, 0, v1460.toNat]
def k0_off10 (i : grid0.Coords) : Fin 3 → Nat :=
  let c9_746 : Index := 9#32
  let c0_747 : Index := 0#32
  let arg0 : BitVec 32 := BitVec.ofNat 32 (i 0).val
  let c512_i32_745 : BitVec 32 := 512#32
  let v1548 : BitVec 32 := Scalar.muli arg0 c512_i32_745
  let v1549 : Index := Scalar.indexCast v1548
  ![9, 0, v1549.toNat]
def k0_off11 (i : grid0.Coords) : Fin 3 → Nat :=
  let c10_782 : Index := 10#32
  let c0_783 : Index := 0#32
  let arg0 : BitVec 32 := BitVec.ofNat 32 (i 0).val
  let c512_i32_781 : BitVec 32 := 512#32
  let v1637 : BitVec 32 := Scalar.muli arg0 c512_i32_781
  let v1638 : Index := Scalar.indexCast v1637
  ![10, 0, v1638.toNat]
def k0_off12 (i : grid0.Coords) : Fin 3 → Nat :=
  let c11_818 : Index := 11#32
  let c0_819 : Index := 0#32
  let arg0 : BitVec 32 := BitVec.ofNat 32 (i 0).val
  let c512_i32_817 : BitVec 32 := 512#32
  let v1726 : BitVec 32 := Scalar.muli arg0 c512_i32_817
  let v1727 : Index := Scalar.indexCast v1726
  ![11, 0, v1727.toNat]
def k0_off13 (i : grid0.Coords) : Fin 3 → Nat :=
  let c12_854 : Index := 12#32
  let c0_855 : Index := 0#32
  let arg0 : BitVec 32 := BitVec.ofNat 32 (i 0).val
  let c512_i32_853 : BitVec 32 := 512#32
  let v1815 : BitVec 32 := Scalar.muli arg0 c512_i32_853
  let v1816 : Index := Scalar.indexCast v1815
  ![12, 0, v1816.toNat]
def k0_off14 (i : grid0.Coords) : Fin 3 → Nat :=
  let c13_890 : Index := 13#32
  let c0_891 : Index := 0#32
  let arg0 : BitVec 32 := BitVec.ofNat 32 (i 0).val
  let c512_i32_889 : BitVec 32 := 512#32
  let v1904 : BitVec 32 := Scalar.muli arg0 c512_i32_889
  let v1905 : Index := Scalar.indexCast v1904
  ![13, 0, v1905.toNat]
def k0_off15 (i : grid0.Coords) : Fin 3 → Nat :=
  let c14_926 : Index := 14#32
  let c0_927 : Index := 0#32
  let arg0 : BitVec 32 := BitVec.ofNat 32 (i 0).val
  let c512_i32_925 : BitVec 32 := 512#32
  let v1993 : BitVec 32 := Scalar.muli arg0 c512_i32_925
  let v1994 : Index := Scalar.indexCast v1993
  ![14, 0, v1994.toNat]
def k0_off16 (i : grid0.Coords) : Fin 3 → Nat :=
  let c15_963 : Index := 15#32
  let c0_964 : Index := 0#32
  let arg0 : BitVec 32 := BitVec.ofNat 32 (i 0).val
  let c512_i32_962 : BitVec 32 := 512#32
  let v2082 : BitVec 32 := Scalar.muli arg0 c512_i32_962
  let v2083 : Index := Scalar.indexCast v2082
  ![15, 0, v2083.toNat]
def k0_cond1 (i : grid0.Coords) : BitVec 1 :=
  let arg0 : BitVec 32 := BitVec.ofNat 32 (i 0).val
  let c7_i32_965 : BitVec 32 := 7#32
  let v2087 : BitVec 1 := Scalar.cmpi .eq arg0 c7_i32_965
  let v2088 : BitVec 32 := Scalar.extui v2087
  let c0_i32_966 : BitVec 32 := 0#32
  let v2089 : BitVec 1 := Scalar.cmpi .ne v2088 c0_i32_966
  v2089

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S17x2x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x17x2x32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S32x4096x17x3 : Shape := ⟨4, ![32, 4096, 17, 3]⟩
abbrev S32x4095x17x3 : Shape := ⟨4, ![32, 4095, 17, 3]⟩
abbrev S32x4095x17x2 : Shape := ⟨4, ![32, 4095, 17, 2]⟩
abbrev S32x4095x17x1 : Shape := ⟨4, ![32, 4095, 17, 1]⟩
abbrev S32x4095x17 : Shape := ⟨3, ![32, 4095, 17]⟩
abbrev S_ : Shape := ⟨0, ![]⟩
abbrev S1x1x1x16 : Shape := ⟨4, ![1, 1, 1, 16]⟩
abbrev S32x4095x17x16 : Shape := ⟨4, ![32, 4095, 17, 16]⟩
abbrev S32x4095x16 : Shape := ⟨3, ![32, 4095, 16]⟩
abbrev S32x4094x16 : Shape := ⟨3, ![32, 4094, 16]⟩
abbrev S32x4094 : Shape := ⟨2, ![32, 4094]⟩
abbrev S32 : Shape := ⟨1, ![32]⟩
abbrev S32x1 : Shape := ⟨2, ![32, 1]⟩
abbrev S32x4079 : Shape := ⟨2, ![32, 4079]⟩
abbrev S32x4079x1 : Shape := ⟨3, ![32, 4079, 1]⟩
abbrev S32x4079x16 : Shape := ⟨3, ![32, 4079, 16]⟩
abbrev S32x4087 : Shape := ⟨2, ![32, 4087]⟩
abbrev S32x4087x1 : Shape := ⟨3, ![32, 4087, 1]⟩
abbrev S32x4087x8 : Shape := ⟨3, ![32, 4087, 8]⟩
abbrev S1x4094 : Shape := ⟨2, ![1, 4094]⟩
abbrev S32x4093 : Shape := ⟨2, ![32, 4093]⟩
abbrev S32x4094x1 : Shape := ⟨3, ![32, 4094, 1]⟩

abbrev nBuf : Space → Nat
  | .hbm => 175
  | .vmem => 0
  | .smem => 0
  | _ => 0

abbrev hbmTy0_0 (i : Nat) : BufTy := match i % 128 with
  | 0 => ⟨S32x4096x17x3, .f32⟩
  | 1 => ⟨S32x4095x17x3, .f32⟩
  | 2 => ⟨S32x4095x17x3, .f32⟩
  | 3 => ⟨S32x4095x17x3, .f32⟩
  | 4 => ⟨S32x4095x17x2, .f32⟩
  | 5 => ⟨S32x4095x17x1, .f32⟩
  | 6 => ⟨S32x4095x17, .f32⟩
  | 7 => ⟨S32x4095x17x1, .f32⟩
  | 8 => ⟨S32x4095x17, .f32⟩
  | 9 => ⟨S32x4095x17x2, .f32⟩
  | 10 => ⟨S_, .f32⟩
  | 11 => ⟨S32x4095x17, .f32⟩
  | 12 => ⟨S32x4095x17, .f32⟩
  | 13 => ⟨S32x4095x17, .f32⟩
  | 14 => ⟨S_, .f32⟩
  | 15 => ⟨S32x4095x17, .f32⟩
  | 16 => ⟨S32x4095x17, .f32⟩
  | 17 => ⟨S_, .f32⟩
  | 18 => ⟨S_, .f32⟩
  | 19 => ⟨S32x4095x17, .f32⟩
  | 20 => ⟨S32x4095x17, .f32⟩
  | 21 => ⟨S_, .f32⟩
  | 22 => ⟨S32x4095x17, .f32⟩
  | 23 => ⟨S32x4095x17, .i1⟩
  | 24 => ⟨S_, .f32⟩
  | 25 => ⟨S32x4095x17, .f32⟩
  | 26 => ⟨S32x4095x17, .i1⟩
  | 27 => ⟨S_, .f32⟩
  | 28 => ⟨S_, .i1⟩
  | 29 => ⟨S32x4095x17, .i1⟩
  | 30 => ⟨S32x4095x17, .i1⟩
  | 31 => ⟨S32x4095x17, .i1⟩
  | 32 => ⟨S32x4095x17, .f32⟩
  | 33 => ⟨S32x4095x17, .f32⟩
  | 34 => ⟨S32x4095x17, .f32⟩
  | 35 => ⟨S32x4095x17, .f32⟩
  | 36 => ⟨S32x4095x17, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S32x4095x17, .i32⟩
  | 44 => ⟨S32x4095x17, .i32⟩
  | 45 => ⟨S_, .i32⟩
  | 46 => ⟨S32x4095x17, .i32⟩
  | 47 => ⟨S32x4095x17, .i1⟩
  | 48 => ⟨S_, .i32⟩
  | 49 => ⟨S32x4095x17, .i32⟩
  | 50 => ⟨S32x4095x17, .i1⟩
  | 51 => ⟨S_, .i32⟩
  | 52 => ⟨S_, .i1⟩
  | 53 => ⟨S32x4095x17, .i1⟩
  | 54 => ⟨S32x4095x17, .i1⟩
  | 55 => ⟨S32x4095x17, .i1⟩
  | 56 => ⟨S32x4095x17, .i32⟩
  | 57 => ⟨S32x4095x17, .i32⟩
  | 58 => ⟨S32x4095x17, .i32⟩
  | 59 => ⟨S32x4095x17x1, .i32⟩
  | 60 => ⟨S1x1x1x16, .i32⟩
  | 61 => ⟨S32x4095x17x16, .i32⟩
  | 62 => ⟨S32x4095x17x16, .i32⟩
  | 63 => ⟨S32x4095x17x16, .i1⟩
  | 64 => ⟨S32x4095x17x16, .f32⟩
  | 65 => ⟨S32x4095x16, .f32⟩
  | 66 => ⟨S32x4094x16, .f32⟩
  | 67 => ⟨S32x4094x16, .f32⟩
  | 68 => ⟨S32x4094x16, .f32⟩
  | 69 => ⟨S32x4094x16, .f32⟩
  | 70 => ⟨S32x4094x16, .f32⟩
  | 71 => ⟨S_, .f32⟩
  | 72 => ⟨S32x4094x16, .f32⟩
  | 73 => ⟨S32x4094x16, .f32⟩
  | 74 => ⟨S_, .f32⟩
  | 75 => ⟨S32x4094, .f32⟩
  | 76 => ⟨S_, .f32⟩
  | 77 => ⟨S32, .f32⟩
  | 78 => ⟨S32x1, .f32⟩
  | 79 => ⟨S32x4094, .f32⟩
  | 80 => ⟨S32x4094, .f32⟩
  | 81 => ⟨S32x4079, .f32⟩
  | 82 => ⟨S32x4079, .f32⟩
  | 83 => ⟨S32x4079, .f32⟩
  | 84 => ⟨S32x4079, .f32⟩
  | 85 => ⟨S32x4079, .f32⟩
  | 86 => ⟨S32x4079, .f32⟩
  | 87 => ⟨S32x4079, .f32⟩
  | 88 => ⟨S32x4079, .f32⟩
  | 89 => ⟨S32x4079, .f32⟩
  | 90 => ⟨S32x4079, .f32⟩
  | 91 => ⟨S32x4079, .f32⟩
  | 92 => ⟨S32x4079, .f32⟩
  | 93 => ⟨S32x4079, .f32⟩
  | 94 => ⟨S32x4079, .f32⟩
  | 95 => ⟨S32x4079, .f32⟩
  | 96 => ⟨S32x4079, .f32⟩
  | 97 => ⟨S32x4079x1, .f32⟩
  | 98 => ⟨S32x4079x1, .f32⟩
  | 99 => ⟨S32x4079x1, .f32⟩
  | 100 => ⟨S32x4079x1, .f32⟩
  | 101 => ⟨S32x4079x1, .f32⟩
  | 102 => ⟨S32x4079x1, .f32⟩
  | 103 => ⟨S32x4079x1, .f32⟩
  | 104 => ⟨S32x4079x1, .f32⟩
  | 105 => ⟨S32x4079x1, .f32⟩
  | 106 => ⟨S32x4079x1, .f32⟩
  | 107 => ⟨S32x4079x1, .f32⟩
  | 108 => ⟨S32x4079x1, .f32⟩
  | 109 => ⟨S32x4079x1, .f32⟩
  | 110 => ⟨S32x4079x1, .f32⟩
  | 111 => ⟨S32x4079x1, .f32⟩
  | 112 => ⟨S32x4079x1, .f32⟩
  | 113 => ⟨S32x4079x16, .f32⟩
  | 114 => ⟨S_, .f32⟩
  | 115 => ⟨S32x4079, .f32⟩
  | 116 => ⟨S_, .f32⟩
  | 117 => ⟨S32x4079, .f32⟩
  | 118 => ⟨S32x4079, .f32⟩
  | 119 => ⟨S_, .i32⟩
  | 120 => ⟨S_, .f32⟩
  | 121 => ⟨S32x4094, .f32⟩
  | 122 => ⟨S32x4087, .f32⟩
  | 123 => ⟨S32x4087, .f32⟩
  | 124 => ⟨S32x4087, .f32⟩
  | 125 => ⟨S32x4087, .f32⟩
  | 126 => ⟨S32x4087, .f32⟩
  | 127 => ⟨S32x4087, .f32⟩
  | _ => ⟨S32x4096x17x3, .f32⟩

abbrev hbmTy0_1 (i : Nat) : BufTy := match i % 128 with
  | 0 => ⟨S32x4087, .f32⟩
  | 1 => ⟨S32x4087, .f32⟩
  | 2 => ⟨S32x4087x1, .f32⟩
  | 3 => ⟨S32x4087x1, .f32⟩
  | 4 => ⟨S32x4087x1, .f32⟩
  | 5 => ⟨S32x4087x1, .f32⟩
  | 6 => ⟨S32x4087x1, .f32⟩
  | 7 => ⟨S32x4087x1, .f32⟩
  | 8 => ⟨S32x4087x1, .f32⟩
  | 9 => ⟨S32x4087x1, .f32⟩
  | 10 => ⟨S32x4087x8, .f32⟩
  | 11 => ⟨S_, .f32⟩
  | 12 => ⟨S32x4087, .f32⟩
  | 13 => ⟨S_, .i32⟩
  | 14 => ⟨S_, .f32⟩
  | 15 => ⟨S32x4094, .f32⟩
  | 16 => ⟨S_, .f32⟩
  | 17 => ⟨S32, .f32⟩
  | 18 => ⟨S32x1, .f32⟩
  | 19 => ⟨S_, .f32⟩
  | 20 => ⟨S32x1, .f32⟩
  | 21 => ⟨S32x1, .f32⟩
  | 22 => ⟨S_, .f32⟩
  | 23 => ⟨S1x4094, .f32⟩
  | 24 => ⟨S32x4094, .f32⟩
  | 25 => ⟨S32x4094, .f32⟩
  | 26 => ⟨S32x4094, .f32⟩
  | 27 => ⟨S32x4094, .f32⟩
  | 28 => ⟨S_, .f32⟩
  | 29 => ⟨S32x4094, .f32⟩
  | 30 => ⟨S32x4094, .f32⟩
  | 31 => ⟨S32x4094, .i1⟩
  | 32 => ⟨S32x4094, .i1⟩
  | 33 => ⟨S32x4094, .i1⟩
  | 34 => ⟨S32x4094, .i32⟩
  | 35 => ⟨S32x4093, .i32⟩
  | 36 => ⟨S32x4093, .i32⟩
  | 37 => ⟨S32x4093, .i32⟩
  | 38 => ⟨S_, .i32⟩
  | 39 => ⟨S_, .i32⟩
  | 40 => ⟨S32x4094, .i32⟩
  | 41 => ⟨S_, .i32⟩
  | 42 => ⟨S32x4094, .i32⟩
  | 43 => ⟨S32x4094, .i1⟩
  | 44 => ⟨S32x4094, .i32⟩
  | 45 => ⟨S32x4094, .i32⟩
  | 46 => ⟨S32x4094x1, .f32⟩
  | _ => ⟨S32x4096x17x3, .f32⟩

abbrev hbmTy (i : Nat) : BufTy := match i / 128 with
  | 0 => hbmTy0_0 i
  | 1 => hbmTy0_1 i
  | _ => ⟨S32x4096x17x3, .f32⟩

abbrev bufTy : (tb : Table) → Fin (tcTables nBuf tb) → BufTy
  | .hbm, ⟨i, _⟩ => hbmTy i
  | _, _ => ⟨S32x4096x17x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_cst : Ref sig .tc := ⟨.hbm, 21, rfl⟩
abbrev main_call1_v3 : Ref sig .tc := ⟨.hbm, 22, rfl⟩
abbrev main_call1_v4 : Ref sig .tc := ⟨.hbm, 23, rfl⟩
abbrev main_call1_cst_0 : Ref sig .tc := ⟨.hbm, 24, rfl⟩
abbrev main_call1_v5 : Ref sig .tc := ⟨.hbm, 25, rfl⟩
abbrev main_call1_v6 : Ref sig .tc := ⟨.hbm, 26, rfl⟩
abbrev main_call1_cst_1 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_v12 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c : Ref sig .tc := ⟨.hbm, 37, rfl⟩
abbrev main_call2_v0 : Ref sig .tc := ⟨.hbm, 38, rfl⟩
abbrev main_call2_c : Ref sig .tc := ⟨.hbm, 39, rfl⟩
abbrev main_call2_v1 : Ref sig .tc := ⟨.hbm, 40, rfl⟩
abbrev main_call2_c_0 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_c_1 : Ref sig .tc := ⟨.hbm, 45, rfl⟩
abbrev main_call2_v5 : Ref sig .tc := ⟨.hbm, 46, rfl⟩
abbrev main_call2_v6 : Ref sig .tc := ⟨.hbm, 47, rfl⟩
abbrev main_call2_c_2 : Ref sig .tc := ⟨.hbm, 48, rfl⟩
abbrev main_call2_v7 : Ref sig .tc := ⟨.hbm, 49, rfl⟩
abbrev main_call2_v8 : Ref sig .tc := ⟨.hbm, 50, rfl⟩
abbrev main_call2_c_3 : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_v12 : Ref sig .tc := ⟨.hbm, 55, rfl⟩
abbrev main_call2_v13 : Ref sig .tc := ⟨.hbm, 56, rfl⟩
abbrev main_call2_v14 : Ref sig .tc := ⟨.hbm, 57, rfl⟩
abbrev main_v15 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_cst_1 : Ref sig .tc := ⟨.hbm, 71, rfl⟩
abbrev main_v23 : Ref sig .tc := ⟨.hbm, 72, rfl⟩
abbrev main_v24 : Ref sig .tc := ⟨.hbm, 73, rfl⟩
abbrev main_cst_2 : Ref sig .tc := ⟨.hbm, 74, rfl⟩
abbrev main_v25 : Ref sig .tc := ⟨.hbm, 75, rfl⟩
abbrev main_cst_3 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_4 : Ref sig .tc := ⟨.hbm, 114, rfl⟩
abbrev main_v63 : Ref sig .tc := ⟨.hbm, 115, rfl⟩
abbrev main_cst_5 : Ref sig .tc := ⟨.hbm, 116, rfl⟩
abbrev main_v64 : Ref sig .tc := ⟨.hbm, 117, rfl⟩
abbrev main_v65 : Ref sig .tc := ⟨.hbm, 118, rfl⟩
abbrev main_c_6 : Ref sig .tc := ⟨.hbm, 119, rfl⟩
abbrev main_call4_v0 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_cst_7 : Ref sig .tc := ⟨.hbm, 139, rfl⟩
abbrev main_v84 : Ref sig .tc := ⟨.hbm, 140, rfl⟩
abbrev main_c_8 : Ref sig .tc := ⟨.hbm, 141, rfl⟩
abbrev main_call5_v0 : Ref sig .tc := ⟨.hbm, 142, rfl⟩
abbrev main_v85 : Ref sig .tc := ⟨.hbm, 143, rfl⟩
abbrev main_cst_9 : Ref sig .tc := ⟨.hbm, 144, rfl⟩
abbrev main_v86 : Ref sig .tc := ⟨.hbm, 145, rfl⟩
abbrev main_v87 : Ref sig .tc := ⟨.hbm, 146, rfl⟩
abbrev main_cst_10 : Ref sig .tc := ⟨.hbm, 147, rfl⟩
abbrev main_v88 : Ref sig .tc := ⟨.hbm, 148, rfl⟩
abbrev main_v89 : Ref sig .tc := ⟨.hbm, 149, rfl⟩
abbrev main_cst_11 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_cst_12 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_c_13 : Ref sig .tc := ⟨.hbm, 166, rfl⟩
abbrev main_call6_v0 : Ref sig .tc := ⟨.hbm, 167, rfl⟩
abbrev main_v104 : Ref sig .tc := ⟨.hbm, 168, rfl⟩
abbrev main_c_14 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩

abbrev nD : Nat := 1
abbrev τ : Topo := Topo.v7x

variable {F : FTy → Type} [FloatOps F]
-- ==== Proof.Setup.lean ====
/- What the two body runs of the idealized kernel share: the branch condition in closed form, the staging and
   scratch memrefs, and the launch invariant with the accumulator as an owned memref. -/
module

public import proofs.«01_k».proof.Proof.Gen.KernelIdeal.Frame
public import proofs.«01_k».proof.Proof.Gen.KernelIdeal.Skeleton
public import Idealize.ShloMosaic.Lib.ValueIdxCore

@[expose] public section

set_option maxRecDepth 16384

noncomputable section

namespace Cert.Proof.Beat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

/-- The condition of the kernel's one branch, as a proposition of the grid coordinates. -/
abbrev lastPt (i : grid0.Coords) : Prop := k0_cond1 i = 1#1

/-- The branch is taken at the last grid point only. -/
theorem lastPt_iff : ∀ t : Fin cfg0.N, lastPt (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [lastPt, k0_cond1, e0]
    word_cmp
   : ∀ t : Fin grid0.N, lastPt (grid0.coords t) ↔ t.val % 8 = 7)

/-- The grid coordinate of a point is the point's number. -/
theorem coord_val (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

/-- The staging memref of each window at a point, and that each is a whole buffer. -/
abbrev st0 (t : Fin cfg0.N) : Memref sig .tc .vmem S17x2x32x512 .f32 := win0_0.stage (cfg0.slots t 0)
abbrev wst0 (t : Fin cfg0.N) : (st0 t).IsWhole := hstage0_0 ((cfg0.slots t 0).cast nbuf0_0)
abbrev st1 (t : Fin cfg0.N) : Memref sig .tc .vmem S1x17x2x32x1 .f32 := win0_1.stage (cfg0.slots t 1)
abbrev wst1 (t : Fin cfg0.N) : (st1 t).IsWhole := hstage0_1 ((cfg0.slots t 1).cast nbuf0_1)
abbrev st2 (t : Fin cfg0.N) : Memref sig .tc .vmem S32x4096 .i32 := win0_2.stage (cfg0.slots t 2)
abbrev wst2 (t : Fin cfg0.N) : (st2 t).IsWhole := hstage0_2 ((cfg0.slots t 2).cast nbuf0_2)
abbrev st3 (t : Fin cfg0.N) : Memref sig .tc .vmem S32x4096 .f32 := win0_3.stage (cfg0.slots t 3)
abbrev wst3 (t : Fin cfg0.N) : (st3 t).IsWhole := hstage0_3 ((cfg0.slots t 3).cast nbuf0_3)
/-- The accumulator scratch as a memref. -/
abbrev acc : Memref sig .tc .vmem S16x32x4096 .f32 := Memref.whole cc0_scratch0

/-- The launch's own invariant is the accumulator owned at some contents beside the generator register. -/
theorem launchInv_eq (c : Dev nD) :
    (Pipeline.ΦA spec0 c : sProp 𝕄)
      = iprop(iprop((∃ d, owns (c : Thread nD τ) acc fullShare d)) ∗ (∃ r, prngReg c r)) := by
  unfold Pipeline.ΦA; rw [scopedRest0_eq]; simp only [acc, owns_whole]; try rfl

end Cert.Proof.Beat

end
-- ==== Proof.Stages.lean ====
/- The stages of the idealized kernel, written over families (one function of the joint, one of the bin) where the
   printed text repeats itself: a motion vector, its magnitude and its bin; a bin's slab; the rhythm; the envelope; the peaks. -/
module

public import proofs.«01_k».proof.Proof.Setup
public import Idealize.ShloMosaic.Lib.ValueIdxCore
public import Idealize.ShloMosaic.Lib.WritesUnit
public import Idealize.ShloMosaic.Lib.WholeRead

@[expose] public section

set_option maxRecDepth 16384

noncomputable section

namespace Cert.Proof.Beat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

/-! ## One block of frames -/

/-- The forward difference along the frames of one coordinate plane `p`, the frame after the block being `q`. -/
def stepOf (p : Vec F S1x1x32x512 .f32) (q : Vec F S1x1x1x32x1 .f32) : FVec F S32x512 .f32 :=
  subf (concatenate S32x512 1 [⟨S32x511, extractStridedSlice S32x511 ![0, 1] (shapeCast S32x512 p shapeCasts_S1x1x32x512_S32x512 : FVec F S32x512 .f32) slices_S32x512_o0_1_S32x511⟩,
      ⟨S32x1, (shapeCast S32x1 q shapeCasts_S1x1x1x32x1_S32x1 : FVec F S32x1 .f32)⟩] concatenates_S32x511_S32x1_S32x512_d1)
    (shapeCast S32x512 p shapeCasts_S1x1x32x512_S32x512 : FVec F S32x512 .f32)

/-- The magnitude of a motion. -/
def magOf (u v : FVec F S32x512 .f32) : FVec F S32x512 .f32 := sqrt (addf (mulf u u) (mulf v v))

/-- The angle of a motion in degrees, before it is reduced. -/
def degOf (u v : FVec F S32x512 .f32) : FVec F S32x512 .f32 :=
  mulf (atan2 v u) (broadcast S32x512 (Scalar.ofBits .f32 0x42652EE1#32 : F .f32))

/-- A vector of angles reduced modulo 180 the floored way, from the truncated remainder. -/
def modOf (a : FVec F S32x512 .f32) : FVec F S32x512 .f32 :=
  let r : FVec F S32x512 .f32 := remf a (broadcast S32x512 (Scalar.ofBits .f32 0x43340000#32 : F .f32))
  let z : FVec F S32x512 .f32 := broadcast S32x512 (Scalar.ofBits .f32 0x00000000#32 : F .f32)
  select (andi (xori (cmpf .olt r z)
        (broadcastTo S32x512 (broadcast S32x512 (Scalar.cmpf .olt (Scalar.ofBits .f32 0x43340000#32 : F .f32) (Scalar.ofBits .f32 0x00000000#32 : F .f32)) : IVec S32x512 1) broadcasts_S32x512_S32x512))
      (cmpf .one r z))
    (addf r (broadcast S32x512 (Scalar.ofBits .f32 0x43340000#32 : F .f32))) r

/-- The bin of a motion: the reduced angle's floor, its low four bits. -/
def binOf (u v : FVec F S32x512 .f32) : IVec S32x512 32 :=
  andi (fptosi 32 (floor (modOf (degOf u v)))) (broadcast S32x512 15#32)

/-- What one joint adds to bin `w`: its magnitude where its bin is `w`, else zero. -/
def partOf (w : BitVec 32) (u v : FVec F S32x512 .f32) : FVec F S32x512 .f32 :=
  select (cmpi .eq (binOf u v) (broadcast S32x512 w)) (magOf u v) (broadcast S32x512 (Scalar.ofBits .f32 0x00000000#32 : F .f32))

/-- The sum of the first `n + 1` members of a family of 17, associated to the left. -/
def sumTo (f : Fin 17 → FVec F S32x512 .f32) : (n : ℕ) → n < 17 → FVec F S32x512 .f32
  | 0, h => f ⟨0, h⟩
  | n + 1, h => addf (sumTo f n (Nat.lt_of_succ_lt h)) (f ⟨n + 1, h⟩)

/-- A bin's slab of one block: the sum over the joints, from the coordinate planes `P` of the block and the columns `Q`
    after it. -/
def slabOf (P : Fin 17 → Fin 2 → Vec F S1x1x32x512 .f32) (Q : Fin 17 → Fin 2 → Vec F S1x1x1x32x1 .f32) (w : BitVec 32) :
    Vec F S1x32x512 .f32 :=
  shapeCast S1x32x512 (sumTo (fun j => partOf w (stepOf (P j 0) (Q j 0)) (stepOf (P j 1) (Q j 1))) 16 (by decide))
    shapeCasts_S32x512_S1x32x512

/-! ## The last point -/

/-- The forward difference along the frames of one accumulated bin, the last frame against itself. -/
def riseOf (r : Vec F S1x32x4096 .f32) : FVec F S32x4096 .f32 :=
  let v : FVec F S32x4096 .f32 := shapeCast S32x4096 r shapeCasts_S1x32x4096_S32x4096
  subf (concatenate S32x4096 1 [⟨S32x4095, extractStridedSlice S32x4095 ![0, 1] v slices_S32x4096_o0_1_S32x4095⟩,
      ⟨S32x1, extractStridedSlice S32x1 ![0, 4095] v slices_S32x4096_o0_4095_S32x1⟩] concatenates_S32x4095_S32x1_S32x4096_d1) v

/-- Its positive part. -/
def gainOf (r : Vec F S1x32x4096 .f32) : FVec F S32x4096 .f32 :=
  maximumf (riseOf r) (broadcast S32x4096 (Scalar.ofBits .f32 0x00000000#32 : F .f32))

/-- Zero plus the first `n` members of a family of 16, associated to the left. -/
def accTo (f : Fin 16 → FVec F S32x4096 .f32) : (n : ℕ) → n ≤ 16 → FVec F S32x4096 .f32
  | 0, _ => broadcast S32x4096 (Scalar.ofBits .f32 0x00000000#32 : F .f32)
  | n + 1, h => addf (accTo f n (Nat.le_of_succ_le h)) (f ⟨n, h⟩)

/-- The rhythm: the positive parts summed over the bins. -/
def rhyOf (R : Fin 16 → Vec F S1x32x4096 .f32) : FVec F S32x4096 .f32 := accTo (fun b => gainOf (R b)) 16 (le_refl 16)

/-- The envelope: the rhythm over its greatest value of the row. -/
def envOf (r : FVec F S32x4096 .f32) : FVec F S32x4096 .f32 :=
  divf r (broadcastTo S32x4096 (shapeCast S32x1 (multiReduction .maximumf [1] S32 r 0xFF800000#32 reduces_S32x4096_S32 (.inl rfl) rfl) shapeCasts_S32_S32x1 : FVec F S32x1 .f32) broadcasts_S32x1_S32x4096)

/-- The envelope's mean over 4094 frames, per row. -/
def meanOf (e : FVec F S32x4096 .f32) : FVec F S32x1 .f32 :=
  divf (shapeCast S32x1 (multiReduction .add [1] S32 e 0x00000000#32 reduces_S32x4096_S32 (.inl rfl) rfl) shapeCasts_S32_S32x1 : FVec F S32x1 .f32)
    (broadcast S32x1 (Scalar.ofBits .f32 0x457FE000#32 : F .f32))

/-- The number zero as a scalar of the kernel. -/
abbrev zeroF : F .f32 := Scalar.ofBits .f32 0x00000000#32

/-- A plane moved one, two, four or eight frames to the left, zeros coming in. -/
def left1 (e : FVec F S32x4096 .f32) : FVec F S32x4096 .f32 :=
  concatenate S32x4096 1 [⟨S32x4095, extractStridedSlice S32x4095 ![0, 1] e slices_S32x4096_o0_1_S32x4095⟩, ⟨S32x1, (broadcast S32x1 zeroF : FVec F S32x1 .f32)⟩] concatenates_S32x4095_S32x1_S32x4096_d1
@[inherit_doc left1] def left2 (e : FVec F S32x4096 .f32) : FVec F S32x4096 .f32 :=
  concatenate S32x4096 1 [⟨S32x4094, extractStridedSlice S32x4094 ![0, 2] e slices_S32x4096_o0_2_S32x4094⟩, ⟨S32x2, (broadcast S32x2 zeroF : FVec F S32x2 .f32)⟩] concatenates_S32x4094_S32x2_S32x4096_d1
@[inherit_doc left1] def left4 (e : FVec F S32x4096 .f32) : FVec F S32x4096 .f32 :=
  concatenate S32x4096 1 [⟨S32x4092, extractStridedSlice S32x4092 ![0, 4] e slices_S32x4096_o0_4_S32x4092⟩, ⟨S32x4, (broadcast S32x4 zeroF : FVec F S32x4 .f32)⟩] concatenates_S32x4092_S32x4_S32x4096_d1
@[inherit_doc left1] def left8 (e : FVec F S32x4096 .f32) : FVec F S32x4096 .f32 :=
  concatenate S32x4096 1 [⟨S32x4088, extractStridedSlice S32x4088 ![0, 8] e slices_S32x4096_o0_8_S32x4088⟩, ⟨S32x8, (broadcast S32x8 zeroF : FVec F S32x8 .f32)⟩] concatenates_S32x4088_S32x8_S32x4096_d1

/-- Sums over windows of two, four, eight and sixteen frames, by doubling. -/
def win2 (e : FVec F S32x4096 .f32) : FVec F S32x4096 .f32 := addf e (left1 e)
@[inherit_doc win2] def win4 (e : FVec F S32x4096 .f32) : FVec F S32x4096 .f32 := addf (win2 e) (left2 (win2 e))
@[inherit_doc win2] def win8 (e : FVec F S32x4096 .f32) : FVec F S32x4096 .f32 := addf (win4 e) (left4 (win4 e))
@[inherit_doc win2] def win16 (e : FVec F S32x4096 .f32) : FVec F S32x4096 .f32 := addf (win8 e) (left8 (win8 e))

/-- Maxima over windows of two, four and eight frames, by doubling. -/
def top2 (e : FVec F S32x4096 .f32) : FVec F S32x4096 .f32 := maximumf e (left1 e)
@[inherit_doc top2] def top4 (e : FVec F S32x4096 .f32) : FVec F S32x4096 .f32 := maximumf (top2 e) (left2 (top2 e))
@[inherit_doc top2] def top8 (e : FVec F S32x4096 .f32) : FVec F S32x4096 .f32 := maximumf (top4 e) (left4 (top4 e))

/-- Each frame's number. -/
abbrev frameNo : IVec S32x4096 32 := iota .tc S32x4096 32 [1] iota_S32x4096_d1_w32

/-- The local mean, zero where the window does not fit. -/
def lmOf (e : FVec F S32x4096 .f32) : FVec F S32x4096 .f32 :=
  select (cmpi .sle frameNo (broadcast S32x4096 4078#32)) (divf (win16 e) (broadcast S32x4096 (Scalar.ofBits .f32 0x41800000#32 : F .f32))) (broadcast S32x4096 zeroF)

/-- The local maximum, zero where the window does not fit. -/
def lxOf (e : FVec F S32x4096 .f32) : FVec F S32x4096 .f32 :=
  select (cmpi .sle frameNo (broadcast S32x4096 4086#32)) (top8 e) (broadcast S32x4096 zeroF)

/-- The candidate peaks: the local maximum clears the local mean by a tenth of the mean, and is the frame's own value. -/
def candOf (e : FVec F S32x4096 .f32) : IVec S32x4096 32 :=
  extui 32 (andi (cmpf .ogt (subf (lxOf e) (lmOf e)) (broadcastTo S32x4096 (mulf (broadcast S32x1 (Scalar.ofBits .f32 0x3DCCCCCD#32 : F .f32)) (meanOf e)) broadcasts_S32x1_S32x4096))
    (cmpf .oeq (lxOf e) e)) natLt_1_32

/-- The peaks: candidates whose next frame is not one, before frame 4093. -/
def peakOf (e : FVec F S32x4096 .f32) : IVec S32x4096 32 :=
  muli (candOf e) (extui 32 (andi (cmpi .ne (subi (concatenate S32x4096 1 [⟨S32x4095, extractStridedSlice S32x4095 ![0, 1] (candOf e) slices_S32x4096_o0_1_S32x4095⟩, ⟨S32x1, (broadcast S32x1 0#32 : IVec S32x1 32)⟩] concatenates_S32x4095_S32x1_S32x4096_d1) (candOf e)) (broadcast S32x4096 0#32))
    (cmpi .slt frameNo (broadcast S32x4096 4093#32))) natLt_1_32)

/-! ## The accumulator -/

/-- The two inputs' blocks as coordinate planes and columns. -/
def planes (x0 : Vec F S17x2x32x512 .f32) (j : Fin 17) (k : Fin 2) : Vec F S1x1x32x512 .f32 := fun y => x0 (ix4 j k (y 2) (y 3))
@[inherit_doc planes] def columns (x1 : Vec F S1x17x2x32x1 .f32) (j : Fin 17) (k : Fin 2) : Vec F S1x1x1x32x1 .f32 := fun y => x1 (ix5 0 j k (y 3) (y 4))

/-- A bin's slab of one block from the inputs' blocks. -/
def slab (x0 : Vec F S17x2x32x512 .f32) (x1 : Vec F S1x17x2x32x1 .f32) (b : Fin 16) : Vec F S1x32x512 .f32 :=
  slabOf (planes x0) (columns x1) (BitVec.ofNat 32 b.val)

/-- The accumulator after the block at columns `[o, o + 512)` is stored over `xs`. -/
def filled (o : ℕ) (x0 : Vec F S17x2x32x512 .f32) (x1 : Vec F S1x17x2x32x1 .f32) (xs : Vec F S16x32x4096 .f32) : Vec F S16x32x4096 .f32 :=
  fun y => if h : o ≤ (y 2).val ∧ (y 2).val < o + 512 then slab x0 x1 (y 0) (ix3 0 (y 1) ⟨(y 2).val - o, by omega⟩) else xs y

/-- Row `b` of the accumulator, as the last point loads it. -/
def rowOf (w : Vec F S16x32x4096 .f32) (b : Fin 16) : Vec F S1x32x4096 .f32 := fun y => w (ix3 b (y 1) (y 2))

/-! ## Storing the slabs -/

section Stores

variable (v : View sig .tc .vmem S16x32x4096 .f32) (f : v.ty.Contents (Elt F))

/-- The offsets of the sixteen stores. -/
def offs (i : grid0.Coords) : Fin 16 → Fin 3 → ℕ
  | ⟨0, _⟩ => k0_off1 i | ⟨1, _⟩ => k0_off2 i | ⟨2, _⟩ => k0_off3 i | ⟨3, _⟩ => k0_off4 i | ⟨4, _⟩ => k0_off5 i | ⟨5, _⟩ => k0_off6 i | ⟨6, _⟩ => k0_off7 i | ⟨7, _⟩ => k0_off8 i
  | ⟨8, _⟩ => k0_off9 i | ⟨9, _⟩ => k0_off10 i | ⟨10, _⟩ => k0_off11 i | ⟨11, _⟩ => k0_off12 i | ⟨12, _⟩ => k0_off13 i | ⟨13, _⟩ => k0_off14 i | ⟨14, _⟩ => k0_off15 i | ⟨15, _⟩ => k0_off16 i
  | ⟨_ + 16, h⟩ => absurd h (by omega)

/-- They are the bin, the row 0 and the block's first column. -/
theorem offs_eq (i : grid0.Coords) : ∀ b : Fin 16, offs i b = ![b.val, 0, 512 * (i 0).val]
  | ⟨0, _⟩ => k0_off1_eq i | ⟨1, _⟩ => k0_off2_eq i | ⟨2, _⟩ => k0_off3_eq i | ⟨3, _⟩ => k0_off4_eq i | ⟨4, _⟩ => k0_off5_eq i | ⟨5, _⟩ => k0_off6_eq i | ⟨6, _⟩ => k0_off7_eq i | ⟨7, _⟩ => k0_off8_eq i
  | ⟨8, _⟩ => k0_off9_eq i | ⟨9, _⟩ => k0_off10_eq i | ⟨10, _⟩ => k0_off11_eq i | ⟨11, _⟩ => k0_off12_eq i | ⟨12, _⟩ => k0_off13_eq i | ⟨13, _⟩ => k0_off14_eq i | ⟨14, _⟩ => k0_off15_eq i | ⟨15, _⟩ => k0_off16_eq i
  | ⟨_ + 16, h⟩ => absurd h (by omega)

/-- They stay inside the accumulator. -/
theorem offs_inb (i : grid0.Coords) (b : Fin 16) : ∀ a, offs i b a + S1x32x512.size a ≤ S16x32x4096.size a := by
  have hi : (i 0).val < 8 := (i 0).isLt
  have hb := b.isLt
  rw [offs_eq]
  intro a
  match a with
  | ⟨0, _⟩ => show b.val + 1 ≤ 16; omega
  | ⟨1, _⟩ => show 0 + 32 ≤ 32; omega
  | ⟨2, _⟩ => show 512 * (i 0).val + 512 ≤ 4096; omega

/-- The first `n` stores, the newest first. -/
def stores (i : grid0.Coords) (S : Fin 16 → Vec F S1x32x512 .f32) : (n : ℕ) → n ≤ 16 → List (View.Piece (Elt F) S16x32x4096 .f32)
  | 0, _ => []
  | n + 1, h => ⟨Rect.unit (s := S16x32x4096) (offs i ⟨n, h⟩) S1x32x512.size (offs_inb i ⟨n, h⟩), S ⟨n, h⟩⟩ :: stores i S n (Nat.le_of_succ_le h)

/-- What the accumulator reads after the first `n` stores. -/
theorem read_stores (i : grid0.Coords) (S : Fin 16 → Vec F S1x32x512 .f32) (y : S16x32x4096.Idx) : ∀ (n : ℕ) (hn : n ≤ 16),
    v.read (Elt F) (v.writes (Elt F) f (stores i S n hn)) y
      = if h : (y 0).val < n ∧ 512 * (i 0).val ≤ (y 2).val ∧ (y 2).val < 512 * (i 0).val + 512
        then S (y 0) (ix3 0 (y 1) ⟨(y 2).val - 512 * (i 0).val, by omega⟩) else v.read (Elt F) f y
  | 0, hn => by rw [dif_neg (by omega)]; rfl
  | n + 1, hn => by
    have h1 : (y 1).val < 32 := (y 1).isLt
    unfold stores
    rw [View.read_writes_cons_unit v f _ _ _ y (offs_eq i ⟨n, hn⟩)]
    by_cases hb : (y 0).val = n ∧ 512 * (i 0).val ≤ (y 2).val ∧ (y 2).val < 512 * (i 0).val + 512
    · have hall : ∀ a, (![n, 0, 512 * (i 0).val] : Fin 3 → ℕ) a ≤ (y a).val ∧ (y a).val < (![n, 0, 512 * (i 0).val] : Fin 3 → ℕ) a + S1x32x512.size a := by
        intro a
        match a with
        | ⟨0, _⟩ => show n ≤ (y 0).val ∧ (y 0).val < n + 1; omega
        | ⟨1, _⟩ => show 0 ≤ (y 1).val ∧ (y 1).val < 0 + 32; omega
        | ⟨2, _⟩ => show 512 * (i 0).val ≤ (y 2).val ∧ (y 2).val < 512 * (i 0).val + 512; omega
      rw [dif_pos hall, dif_pos (show _ from ⟨by omega, hb.2.1, hb.2.2⟩)]
      have e0 : (⟨n, hn⟩ : Fin 16) = y 0 := Fin.ext hb.1.symm
      refine congr (congrArg S e0) (funext fun a => ?_)
      match a with
      | ⟨0, _⟩ => exact Fin.ext (show (y 0).val - n = 0 by omega)
      | ⟨1, _⟩ => exact Fin.ext (show (y 1).val - 0 = (y 1).val by omega)
      | ⟨2, _⟩ => rfl
    · rw [dif_neg (fun hall => hb ⟨by
          have := hall (0 : Fin 3)
          have h' : n ≤ (y 0).val ∧ (y 0).val < n + 1 := this
          omega, show 512 * (i 0).val ≤ (y 2).val ∧ (y 2).val < 512 * (i 0).val + 512 from hall (2 : Fin 3)⟩), read_stores i S y n (Nat.le_of_succ_le hn)]
      by_cases hc : (y 0).val < n ∧ 512 * (i 0).val ≤ (y 2).val ∧ (y 2).val < 512 * (i 0).val + 512
      · rw [dif_pos hc, dif_pos (show _ from ⟨by omega, hc.2.1, hc.2.2⟩)]
      · rw [dif_neg hc, dif_neg (fun h => hc ⟨by omega, h.2⟩)]

end Stores

/-- A load of one coordinate plane of the block held at `x0` is that plane. -/
theorem load_plane (m : Memref sig .tc .vmem S17x2x32x512 .f32) (hm : m.IsWhole) (x0 : Vec F S17x2x32x512 .f32) (j : Fin 17) (k : Fin 2)
    (inb : ∀ a, (![j.val, k.val, 0, 0] : Fin 4 → ℕ) a + S1x1x32x512.size a ≤ S17x2x32x512.size a) :
    m.view.readAt (Elt F) (Rect.unit (s := S17x2x32x512) ![j.val, k.val, 0, 0] S1x1x32x512.size inb).toLoadRect (hm.unread x0) = planes x0 j k := by
  funext y
  refine (hm.readAt_unread x0 _ y).trans ?_
  unfold planes
  congr 1
  funext a
  have h0 : (y 0).val < 1 := (y 0).isLt
  have h1 : (y 1).val < 1 := (y 1).isLt
  match a with
  | ⟨0, _⟩ => exact Fin.ext (show j.val + 1 * (y 0).val = j.val by omega)
  | ⟨1, _⟩ => exact Fin.ext (show k.val + 1 * (y 1).val = k.val by omega)
  | ⟨2, _⟩ => exact Fin.ext (show 0 + 1 * (y 2).val = (y 2).val by omega)
  | ⟨3, _⟩ => exact Fin.ext (show 0 + 1 * (y 3).val = (y 3).val by omega)

/-- A load of one coordinate column of the block held at `x1` is that column. -/
theorem load_column (m : Memref sig .tc .vmem S1x17x2x32x1 .f32) (hm : m.IsWhole) (x1 : Vec F S1x17x2x32x1 .f32) (j : Fin 17) (k : Fin 2)
    (inb : ∀ a, (![0, j.val, k.val, 0, 0] : Fin 5 → ℕ) a + S1x1x1x32x1.size a ≤ S1x17x2x32x1.size a) :
    m.view.readAt (Elt F) (Rect.unit (s := S1x17x2x32x1) ![0, j.val, k.val, 0, 0] S1x1x1x32x1.size inb).toLoadRect (hm.unread x1) = columns x1 j k := by
  funext y
  refine (hm.readAt_unread x1 _ y).trans ?_
  unfold columns
  congr 1
  funext a
  have h0 : (y 0).val < 1 := (y 0).isLt
  have h1 : (y 1).val < 1 := (y 1).isLt
  have h2 : (y 2).val < 1 := (y 2).isLt
  match a with
  | ⟨0, _⟩ => exact Fin.ext (show 0 + 1 * (y 0).val = 0 by omega)
  | ⟨1, _⟩ => exact Fin.ext (show j.val + 1 * (y 1).val = j.val by omega)
  | ⟨2, _⟩ => exact Fin.ext (show k.val + 1 * (y 2).val = k.val by omega)
  | ⟨3, _⟩ => exact Fin.ext (show 0 + 1 * (y 3).val = (y 3).val by omega)
  | ⟨4, _⟩ => exact Fin.ext (show 0 + 1 * (y 4).val = (y 4).val by omega)

/-- A load of one whole row of an accumulator that reads `w` is that row. -/
theorem load_row (v : View sig .tc .vmem S16x32x4096 .f32) (f : v.ty.Contents (Elt F)) (w : Vec F S16x32x4096 .f32) (hf : v.read (Elt F) f = w) (b : Fin 16)
    (inb : ∀ a, (![b.val, 0, 0] : Fin 3 → ℕ) a + S1x32x4096.size a ≤ S16x32x4096.size a) :
    v.readAt (Elt F) (Rect.unit (s := S16x32x4096) ![b.val, 0, 0] S1x32x4096.size inb).toLoadRect f = rowOf w b := by
  funext y
  rw [View.readAt_apply, hf]
  unfold rowOf
  congr 1
  funext a
  have h0 : (y 0).val < 1 := (y 0).isLt
  match a with
  | ⟨0, _⟩ => exact Fin.ext (show b.val + 1 * (y 0).val = b.val by omega)
  | ⟨1, _⟩ => exact Fin.ext (show 0 + 1 * (y 1).val = (y 1).val by omega)
  | ⟨2, _⟩ => exact Fin.ext (show 0 + 1 * (y 2).val = (y 2).val by omega)

/-- After the sixteen stores of a block's slabs over an accumulator that reads `xs`, it reads `filled`. -/
theorem read_filled (m : Memref sig .tc .vmem S16x32x4096 .f32) (hm : m.IsWhole) (i : grid0.Coords) (x0 : Vec F S17x2x32x512 .f32) (x1 : Vec F S1x17x2x32x1 .f32)
    (xs : Vec F S16x32x4096 .f32) :
    m.view.read (Elt F) (m.view.writes (Elt F) (hm.unread xs) (stores i (slab x0 x1) 16 (le_refl 16))) = filled (512 * (i 0).val) x0 x1 xs := by
  funext y
  have h0 : (y 0).val < 16 := (y 0).isLt
  rw [read_stores, hm.read_unread]
  unfold filled
  by_cases hc : 512 * (i 0).val ≤ (y 2).val ∧ (y 2).val < 512 * (i 0).val + 512
  · rw [dif_pos hc, dif_pos (show _ from ⟨h0, hc.1, hc.2⟩)]
  · rw [dif_neg hc, dif_neg (fun h => hc h.2)]

end Cert.Proof.Beat

end
-- ==== Proof.RunA.lean ====
/- One run of the idealized kernel's body before the last point: the accumulator gains the block's slabs. -/
module

public import proofs.«01_k».proof.Proof.Stages

@[expose] public section

set_option maxRecDepth 16384

noncomputable section

namespace Cert.Proof.Beat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

/-- The planes and columns stay inside their blocks. -/
theorem plane_inb (j : Fin 17) (k : Fin 2) : ∀ a, (![j.val, k.val, 0, 0] : Fin 4 → ℕ) a + S1x1x32x512.size a ≤ S17x2x32x512.size a := by
  revert j k; decide
@[inherit_doc plane_inb] theorem column_inb (j : Fin 17) (k : Fin 2) : ∀ a, (![0, j.val, k.val, 0, 0] : Fin 5 → ℕ) a + S1x1x1x32x1.size a ≤ S1x17x2x32x1.size a := by
  revert j k; decide

/-- The coordinate planes and columns of a block, as a body's loads spell them. -/
abbrev loadedPlanes (m : Memref sig .tc .vmem S17x2x32x512 .f32) (hm : m.IsWhole) (x0 : Vec F S17x2x32x512 .f32) (j : Fin 17) (k : Fin 2) : Vec F S1x1x32x512 .f32 :=
  m.view.readAt (Elt F) (Rect.unit (s := S17x2x32x512) ![j.val, k.val, 0, 0] S1x1x32x512.size (plane_inb j k)).toLoadRect (hm.unread x0)
@[inherit_doc loadedPlanes] abbrev loadedColumns (m : Memref sig .tc .vmem S1x17x2x32x1 .f32) (hm : m.IsWhole) (x1 : Vec F S1x17x2x32x1 .f32) (j : Fin 17) (k : Fin 2) : Vec F S1x1x1x32x1 .f32 :=
  m.view.readAt (Elt F) (Rect.unit (s := S1x17x2x32x1) ![0, j.val, k.val, 0, 0] S1x1x1x32x1.size (column_inb j k)).toLoadRect (hm.unread x1)

/-- The slab of a bin from the loads. -/
theorem slab_loaded (m : Memref sig .tc .vmem S17x2x32x512 .f32) (hm : m.IsWhole) (x0 : Vec F S17x2x32x512 .f32)
    (m' : Memref sig .tc .vmem S1x17x2x32x1 .f32) (hm' : m'.IsWhole) (x1 : Vec F S1x17x2x32x1 .f32) :
    (fun b : Fin 16 => slabOf (loadedPlanes m hm x0) (loadedColumns m' hm' x1) (BitVec.ofNat 32 b.val)) = slab x0 x1 := by
  have h0 : loadedPlanes m hm x0 = planes x0 := funext fun j => funext fun k => load_plane m hm x0 j k _
  have h1 : loadedColumns m' hm' x1 = columns x1 := funext fun j => funext fun k => load_column m' hm' x1 j k _
  rw [h0, h1]; rfl

set_option maxHeartbeats 4000000 in
/-- Before the last point the body, run on whole staging memrefs at the inputs' blocks and on the accumulator reading `xs`,
    leaves the inputs as they were and the accumulator with the block's slabs stored. -/
theorem runA (c : Dev nD) (i : grid0.Coords) (arg1 : Memref sig .tc .vmem S17x2x32x512 .f32) (harg1 : arg1.IsWhole) (arg2 : Memref sig .tc .vmem S1x17x2x32x1 .f32) (harg2 : arg2.IsWhole) (arg3 : Memref sig .tc .vmem S32x4096 .i32) (harg3 : arg3.IsWhole) (arg4 : Memref sig .tc .vmem S32x4096 .f32) (harg4 : arg4.IsWhole) (arg5 : Memref sig .tc .vmem S16x32x4096 .f32) (harg5 : arg5.IsWhole) (hc0 : ¬lastPt i)
    (x0 : Vec F S17x2x32x512 .f32) (x1 : Vec F S1x17x2x32x1 .f32) (xs : Vec F S16x32x4096 .f32) :
      ∀ (E : Set ℕ) (K : PUnit → sProp 𝕄),
        iprop(owns (c : Thread nD τ) arg1 fullShare x0 ∗ owns (c : Thread nD τ) arg2 fullShare x1 ∗ owns (c : Thread nD τ) arg5 fullShare xs
            ∗ (iprop(owns (c : Thread nD τ) arg1 fullShare x0 ∗ owns (c : Thread nD τ) arg2 fullShare x1 ∗ owns (c : Thread nD τ) arg5 fullShare (filled (512 * (i 0).val) x0 x1 xs)) -∗ K ⟨⟩))
          ⊢ wp frame (wpE (defs₀ (F := F)) Variants.none c none) E (cc0__rhythm_kernel i arg1 harg1 arg2 harg2 arg3 harg3 arg4 harg4 arg5 harg5) K := by
    intro E K
    simp only [cc0__rhythm_kernel_eq_skeleton]; unfold cc0__rhythm_kernel_skel
    simp only [k0_part57_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg5.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact HS0
    ipureintro
    rw [← read_filled arg5 harg5 i x0 x1 xs, ← slab_loaded arg1 harg1 x0 arg2 harg2 x1]
    rfl

end Cert.Proof.Beat

end
-- ==== Proof.RunB.lean ====
/- The run of the idealized kernel's body at the last point: the accumulator gains the block's slabs, and the two results
   are computed from the whole of it. -/
module

public import proofs.«01_k».proof.Proof.RunA
public import Idealize.ShloMosaic.Lib.VecWindow

@[expose] public section

set_option maxRecDepth 16384

noncomputable section

namespace Cert.Proof.Beat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

/-- The rows stay inside the accumulator. -/
theorem row_inb (b : Fin 16) : ∀ a, (![b.val, 0, 0] : Fin 3 → ℕ) a + S1x32x4096.size a ≤ S16x32x4096.size a := by
  revert b; decide

/-- The rows of an accumulator, as the last point's loads spell them. -/
abbrev loadedRows (v : View sig .tc .vmem S16x32x4096 .f32) (f : v.ty.Contents (Elt F)) (b : Fin 16) : Vec F S1x32x4096 .f32 :=
  v.readAt (Elt F) (Rect.unit (s := S16x32x4096) ![b.val, 0, 0] S1x32x4096.size (row_inb b)).toLoadRect f

/-- The rows of an accumulator just filled. -/
theorem rows_filled (m : Memref sig .tc .vmem S16x32x4096 .f32) (hm : m.IsWhole) (i : grid0.Coords) (m0 : Memref sig .tc .vmem S17x2x32x512 .f32) (hm0 : m0.IsWhole)
    (x0 : Vec F S17x2x32x512 .f32) (m1 : Memref sig .tc .vmem S1x17x2x32x1 .f32) (hm1 : m1.IsWhole) (x1 : Vec F S1x17x2x32x1 .f32) (xs : Vec F S16x32x4096 .f32) :
    loadedRows m.view (m.view.writes (Elt F) (hm.unread xs) (stores i (fun b : Fin 16 => slabOf (loadedPlanes m0 hm0 x0) (loadedColumns m1 hm1 x1) (BitVec.ofNat 32 b.val)) 16 (le_refl 16)))
      = rowOf (filled (512 * (i 0).val) x0 x1 xs) :=
  funext fun b => load_row m.view _ _ (by rw [slab_loaded]; exact read_filled m hm i x0 x1 xs) b _

set_option maxHeartbeats 4000000 in
/-- At the last point the body, run on whole staging memrefs at the inputs' blocks and on the accumulator reading `xs`,
    leaves the accumulator with the block's slabs stored and the two results at the peaks and the envelope of its rows. -/
theorem runB (c : Dev nD) (i : grid0.Coords) (arg1 : Memref sig .tc .vmem S17x2x32x512 .f32) (harg1 : arg1.IsWhole) (arg2 : Memref sig .tc .vmem S1x17x2x32x1 .f32) (harg2 : arg2.IsWhole) (arg3 : Memref sig .tc .vmem S32x4096 .i32) (harg3 : arg3.IsWhole) (arg4 : Memref sig .tc .vmem S32x4096 .f32) (harg4 : arg4.IsWhole) (arg5 : Memref sig .tc .vmem S16x32x4096 .f32) (harg5 : arg5.IsWhole) (hc0 : lastPt i)
    (x0 : Vec F S17x2x32x512 .f32) (x1 : Vec F S1x17x2x32x1 .f32) (xs : Vec F S16x32x4096 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs
            ∗ (iprop(owns (c : Thread nD τ) arg1 fullShare x0 ∗ owns (c : Thread nD τ) arg2 fullShare x1
                ∗ owns (c : Thread nD τ) arg3 fullShare (peakOf (envOf (rhyOf (rowOf (filled (512 * (i 0).val) x0 x1 xs)))))
                ∗ owns (c : Thread nD τ) arg4 fullShare (envOf (rhyOf (rowOf (filled (512 * (i 0).val) x0 x1 xs))))
                ∗ owns (c : Thread nD τ) arg5 fullShare (filled (512 * (i 0).val) x0 x1 xs)) -∗ K ⟨⟩))
          ⊢ wp frame (wpE (defs₀ (F := F)) Variants.none c none) E (cc0__rhythm_kernel i arg1 harg1 arg2 harg2 arg3 harg3 arg4 harg4 arg5 harg5) K := by
    intro E K
    simp only [cc0__rhythm_kernel_eq_skeleton]; unfold cc0__rhythm_kernel_skel
    simp only [k0_part1_eq_skeleton, k0_part2_eq_skeleton, k0_part3_eq_skeleton, k0_part4_eq_skeleton, k0_part5_eq_skeleton, k0_part57_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      rw [← rows_filled arg5 harg5 i arg1 harg1 x0 arg2 harg2 x1 xs]
      refine (View.read_writes_full arg3.view f2 _ _ _).trans ?_
      rfl
    isplitl [H3]
    · iexists _; isplitr; swap; · iexact H3
      ipureintro
      rw [← rows_filled arg5 harg5 i arg1 harg1 x0 arg2 harg2 x1 xs]
      refine (View.read_writes_full arg4.view f3 _ _ _).trans ?_
      rfl
    iexists _; isplitr; swap; · iexact HS0
    ipureintro
    rw [← read_filled arg5 harg5 i x0 x1 xs, ← slab_loaded arg1 harg1 x0 arg2 harg2 x1]
    rfl

end Cert.Proof.Beat

end
-- ==== Proof.Launch.lean ====
/- The launch of the idealized kernel: the histogram the accumulator gathers point by point, the proof data, the
   body obligation, the run and the frame. -/
module

public import proofs.«01_k».proof.Proof.RunA
public import proofs.«01_k».proof.Proof.RunB
public import Idealize.ShloMosaic.Lib.Claim

@[expose] public section

set_option maxRecDepth 16384

noncomputable section

namespace Cert.Proof.Beat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point whose slab holds column `n`. -/
def pointOf (n : ℕ) (h : n < 4096) : Fin cfg0.N := ⟨n / 512, Nat.lt_of_lt_of_eq (by omega) N_0.symm⟩

/-- The histogram the accumulator holds once every point has run: column `y 2` of bin `y 0` comes from the slab of
    the point that the column lies in. -/
def hist (c : Dev nD) : Vec F S16x32x4096 .f32 := fun y =>
  slab (iblk m c 0 (pointOf (y 2).val (y 2).isLt)) (iblk m c 1 (pointOf (y 2).val (y 2).isLt)) (y 0)
    (ix3 (0 : Fin 1) (y 1) (⟨(y 2).val % 512, Nat.mod_lt _ (by decide)⟩ : Fin 512))

/-- What the launch keeps between points: the accumulator right in the columns of the points already run, and the
    generator register. -/
def keeps (c : Dev nD) (k : ℕ) : sProp 𝕄 :=
  iprop((∃ d, ⌜∀ y : S16x32x4096.Idx, (y 2).val < 512 * k → d y = hist m c y⌝ ∗ owns (c : Thread nD τ) acc fullShare d)
    ∗ (∃ r, prngReg c r))

/-- One point's slab extends the right columns by its own. -/
theorem filled_next (c : Dev nD) (t : Fin cfg0.N) (xs : Vec F S16x32x4096 .f32)
    (h : ∀ y : S16x32x4096.Idx, (y 2).val < 512 * t.val → xs y = hist m c y) :
    ∀ y : S16x32x4096.Idx, (y 2).val < 512 * (t.val + 1) →
      filled (512 * (grid0.coords t 0).val) (iblk m c 0 t) (iblk m c 1 t) xs y = hist m c y := by
  intro y hy
  unfold filled
  rw [coord_val]
  by_cases hb : 512 * t.val ≤ (y 2).val ∧ (y 2).val < 512 * t.val + 512
  · rw [dif_pos hb]
    have ht : pointOf (y 2).val (y 2).isLt = t := Fin.ext (by show (y 2).val / 512 = t.val; omega)
    have hm : (y 2).val % 512 = (y 2).val - 512 * t.val := by omega
    unfold hist
    rw [ht]
    congr 2
    exact Fin.ext hm.symm
  · rw [dif_neg hb]
    exact h y (by omega)

/-- After the last point the whole accumulator is the histogram. -/
theorem filled_last (c : Dev nD) (t : Fin cfg0.N) (ht : t.val % 8 = 7) (xs : Vec F S16x32x4096 .f32)
    (h : ∀ y : S16x32x4096.Idx, (y 2).val < 512 * t.val → xs y = hist m c y) :
    filled (512 * (grid0.coords t 0).val) (iblk m c 0 t) (iblk m c 1 t) xs = hist m c := by
  funext y
  have hN : t.val < 8 := Nat.lt_of_lt_of_eq t.isLt N_0
  have hy : (y 2).val < 4096 := (y 2).isLt
  exact filled_next m c t xs h y (by omega)

/-- The envelope the last point stores. -/
def envOut (c : Dev nD) : Vec F S32x4096 .f32 := envOf (rhyOf (rowOf (hist m c)))
/-- The peaks the last point stores. -/
def peakOut (c : Dev nD) : Vec F S32x4096 .i32 := peakOf (envOut m c)

/-- The proof data: the arrays as the region finds them, the inputs' buffers left at their blocks, the outputs' at
    the envelope and the peaks of the full histogram, and the accumulator's invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => peakOut m c
    | ⟨3, _⟩ => envOut m c
  Φ k := keeps m c k.val
  q _ := fullShare
  owed _ := 0

/-- Each window's array starts as the region finds it. -/
theorem dats_A (c : Dev nD) (w : Fin cfg0.W) : (dats m 0 c).A w = V m c (Pipeline.arrRef spec0 w) := by
  dsimp only [dats]
/-- The first input's window holds its block after a point. -/
theorem after_0 (c : Dev nD) (t : Fin cfg0.N) : (dats m 0 c).after 0 t = iblk m c 0 t := by dsimp only [dats]
/-- So does the second's. -/
theorem after_1 (c : Dev nD) (t : Fin cfg0.N) : (dats m 0 c).after 1 t = iblk m c 1 t := by dsimp only [dats]
/-- The first output's window is to hold the peaks, -/
theorem after_2 (c : Dev nD) (t : Fin cfg0.N) : (dats m 0 c).after 2 t = peakOut m c := by dsimp only [dats]
/-- and the second's the envelope. -/
theorem after_3 (c : Dev nD) (t : Fin cfg0.N) : (dats m 0 c).after 3 t = envOut m c := by dsimp only [dats]
/-- The inputs' buffers hold their blocks at every point. -/
theorem before_0 (c : Dev nD) (t : Fin cfg0.N) (d) : (dats m 0 c).before 0 t d = iblk m c 0 t :=
  before0_0_of m (dats m 0 c) (dats_A m c 0) (after_0 m c) t d
/-- The second input's window holds its block before a point. -/
theorem before_1 (c : Dev nD) (t : Fin cfg0.N) (d) : (dats m 0 c).before 1 t d = iblk m c 1 t :=
  before0_1_of m (dats m 0 c) (dats_A m c 1) (after_1 m c) t d

/-- What the body is called with at a point, window by window. -/
def entry (c : Dev nD) (t : Fin cfg0.N) : sProp 𝕄 :=
  iprop(keeps m c t.val ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d)))

/-- What the body hands back. -/
def leave (c : Dev nD) (t : Fin cfg0.N) : sProp 𝕄 :=
  iprop(keeps m c (t.val + 1) ∗ (dats m 0 c).owesAt () t.castSucc
    ∗ owns (c : Thread nD τ) (st0 t) fullShare (iblk m c 0 t)
    ∗ owns (c : Thread nD τ) (st1 t) fullShare (iblk m c 1 t)
    ∗ (dats m 0 c).leavesExact 2 t
    ∗ (dats m 0 c).leavesExact 3 t)

/-- The first output is idle away from the last point and not written back there. -/
theorem idle_2 (c : Dev nD) (t : Fin cfg0.N) (h : ¬ t.val % 8 = 7) :
    (dats m 0 c).leavesExact 2 t = iprop(∃ d, owns (c : Thread nD τ) (st2 t) fullShare ((dats m 0 c).before 2 t d)) :=
  (dats m 0 c).leavesExact_idle 2 t
    (by show (!(k0_cond1 (grid0.coords t) == 1#1)) = true
        rw [beq_eq_false_iff_ne.mpr (fun e => h ((lastPt_iff t).mp e))]; rfl)
    (by rw [← Bool.not_eq_true]; exact fun e => h ((flush0_2 t).mp e))
/-- The second output likewise keeps whatever it held away from the last point. -/
theorem idle_3 (c : Dev nD) (t : Fin cfg0.N) (h : ¬ t.val % 8 = 7) :
    (dats m 0 c).leavesExact 3 t = iprop(∃ d, owns (c : Thread nD τ) (st3 t) fullShare ((dats m 0 c).before 3 t d)) :=
  (dats m 0 c).leavesExact_idle 3 t
    (by show (!(k0_cond1 (grid0.coords t) == 1#1)) = true
        rw [beq_eq_false_iff_ne.mpr (fun e => h ((lastPt_iff t).mp e))]; rfl)
    (by rw [← Bool.not_eq_true]; exact fun e => h ((flush0_3 t).mp e))
/-- The first output is left at the peaks at the last point. -/
theorem live_2 (c : Dev nD) (t : Fin cfg0.N) (h : t.val % 8 = 7) :
    (dats m 0 c).leavesExact 2 t = owns (c : Thread nD τ) (st2 t) fullShare (peakOut m c) := by
  have hi : cfg0.idle 2 (cfg0.grid.coords t) = false := by
    show (!(k0_cond1 (grid0.coords t) == 1#1)) = false
    rw [beq_iff_eq.mpr ((lastPt_iff t).mpr h)]; rfl
  unfold Dat.leavesExact; rw [hi, after_2]
/-- The second output is left at the envelope at the last point. -/
theorem live_3 (c : Dev nD) (t : Fin cfg0.N) (h : t.val % 8 = 7) :
    (dats m 0 c).leavesExact 3 t = owns (c : Thread nD τ) (st3 t) fullShare (envOut m c) := by
  have hi : cfg0.idle 3 (cfg0.grid.coords t) = false := by
    show (!(k0_cond1 (grid0.coords t) == 1#1)) = false
    rw [beq_iff_eq.mpr ((lastPt_iff t).mpr h)]; rfl
  unfold Dat.leavesExact; rw [hi, after_3]

set_option maxHeartbeats 800000 in
/-- The body at any point: one run of the two, by whether the point is the last. -/
theorem body_at (c : Dev nD) (t : Fin cfg0.N) :
    entry m c t ⊢ wp frame (wpE (defs₀ (F := F)) Variants.none c none) Set.univ (bodyAt0 t) (fun _ => leave m c t) := by
  unfold entry leave bodyAt0
  simp only [before_0, before_1]
  by_cases h0 : t.val % 8 = 7
  · rw [live_2 m c t h0, live_3 m c t h0]
    unfold keeps
    iintro ⟨⟨⟨%xs, %hx, HS⟩, Hg⟩, Ho, ⟨%d0, H0⟩, ⟨%d1, H1⟩, ⟨%d2, H2⟩, ⟨%d3, H3⟩⟩
    iapply (runB c (grid0.coords t) _ _ _ _ _ _ _ _ _ _ ((lastPt_iff t).mpr h0) (iblk m c 0 t) (iblk m c 1 t) xs Set.univ _)
    rw [filled_last m c t h0 xs hx]
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HS Hg]
    · isplitl [HS]
      · iexists _
        isplitr
        · ipureintro
          exact fun _ _ => rfl
        iexact HS
      iexact Hg
    isplitl [Ho]; · iexact Ho
    isplitl [H0]; · iexact H0
    isplitl [H1]; · iexact H1
    isplitl [H2]; · iexact H2
    iexact H3
  · rw [idle_2 m c t h0, idle_3 m c t h0]
    unfold keeps
    iintro ⟨⟨⟨%xs, %hx, HS⟩, Hg⟩, Ho, ⟨%d0, H0⟩, ⟨%d1, H1⟩, ⟨%d2, H2⟩, ⟨%d3, H3⟩⟩
    iapply (runA c (grid0.coords t) _ _ _ _ _ _ _ _ _ _ (fun h => h0 ((lastPt_iff t).mp h)) (iblk m c 0 t) (iblk m c 1 t) xs Set.univ _)
    isplitl [H0]; · iexact H0
    isplitl [H1]; · iexact H1
    isplitl [HS]; · iexact HS
    iintro ⟨H0, H1, HS⟩
    isplitl [HS Hg]
    · isplitl [HS]
      · iexists _
        isplitr
        · ipureintro
          exact filled_next m c t xs hx
        iexact HS
      iexact Hg
    isplitl [Ho]; · iexact Ho
    isplitl [H0]; · iexact H0
    isplitl [H1]; · iexact H1
    isplitl [H2]; · iexists _; iexact H2
    iexists _; iexact H3

/-- The row of the body table that a point calls is the body at the point. -/
theorem row_at (t : Fin cfg0.N) :
    defs₀ (F := F) .tc cfg0.body (cfg0.bodyArgs t (cfg0.slots t)) = bodyAt0 t := by
  unfold defs₀; rw [Defs.onTc_tc]

/-- The pipeline's obligation at every point. -/
theorem obligation (c : Dev nD) : BodyObligation (dats (F := F) m 0 c) (defs₀ (F := F)) Variants.none () Set.univ := fun t => by
  rw [bigSep_W0, bigSep_W0, row_at]
  exact triple_restated (body_at m c t) rfl .rfl fun _ => .rfl

/-- The launch's invariant starts the accumulator's, nothing being claimed of it yet, -/
theorem keeps_first (c : Dev nD) : (Pipeline.ΦA spec0 c : sProp 𝕄) ⊢ keeps m c 0 := by
  rw [launchInv_eq]; unfold keeps
  iintro ⟨⟨%d, HS⟩, Hg⟩
  isplitl [HS]
  · iexists d
    isplitr
    · ipureintro
      intro y h; omega
    iexact HS
  iexact Hg

/-- and is what the accumulator's invariant forgets to. -/
theorem keeps_last (c : Dev nD) (k : ℕ) : keeps m c k ⊢ (Pipeline.ΦA spec0 c : sProp 𝕄) := by
  rw [launchInv_eq]; unfold keeps
  iintro ⟨⟨%d, %h, HS⟩, Hg⟩
  isplitl [HS]
  · iexists d
    iexact HS
  iexact Hg

set_option backward.isDefEq.respectTransparency.types false in
set_option maxHeartbeats 800000 in
/-- The launch: every weakly fair execution ends, with the pipeline's arrays at the proof data's, the other buffers as
    the host lines leave them, and every semaphore at zero. -/
theorem run_all : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hin := keeps_first m) (hout := fun c => keeps_last m c _)
    (hQ' := fun _ h => h)

/-- The idealized kernel's frame: the argument ends as launched and every semaphore at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (dats_A m) ((θ_run defs _ _).mono (fun _ h => h.1) (run_all m ρ)))
    ((θ_run defs _ _).mono (fun _ h => h.2) (run_all m ρ))

end Cert.Proof.Beat

end
-- ==== Proof.Results.lean ====
/- The two results of the idealized kernel: each output array is written back once and whole, and the host lines after
   the region keep the first 4094 frames. -/
module

public import proofs.«01_k».proof.Proof.Launch
public import Idealize.ShloMosaic.Lib.Pipeline.Value

@[expose] public section

set_option maxRecDepth 16384

noncomputable section

namespace Cert.Proof.Beat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last grid point. -/
def lastOne : Fin cfg0.N := ⟨7, Nat.lt_of_lt_of_eq (by decide) N_0.symm⟩

/-- Window 2 is written back once, whole, with `peakOut`. -/
theorem flushed_2 (c : Dev nD) (t : Fin cfg0.N) (hf : (cfg0.win 2).flush t = true) :
    (dats m 0 c).flushed 2 t = ((cfg0.win 2).blk t).view.read (Elt F) (peakOut m c) := by
  show (cfg0.win 2).cut (grid0.coords t) ((dats m 0 c).after 2 t) = _
  rw [after_2]
  have hz : (fun a => win0_2.index t a * main_call0_v0_0.ty.shape.size a) = fun _ => 0 := funext fun a => by
    match a with
    | ⟨0, _⟩ => exact Nat.zero_mul _
    | ⟨1, _⟩ => exact Nat.zero_mul _
  exact (Memref.read_access_unit_zero (Elt F) main_call0_v0_0 hz (fun a => by rw [congrFun hz a]; simp) (peakOut m c)).symm

/-- So its array ends as `peakOut`. -/
theorem final_2 (c : Dev nD) : (dats m 0 c).arrAt 2 cfg0.N = peakOut m c :=
  (dats m 0 c).arrAt_eq_of_cover 2 (peakOut m c) (flushed_2 m c) fun i =>
    ⟨lastOne, (flush0_2 lastOne).mpr rfl, by
      show i ∈ ((View.whole main_call0_v0_0).slice (win0_2.rect lastOne)).set
      rw [View.set_slice_whole, Rect.mem_set_unit]
      intro a
      have h0 : (i 0 : Nat) < 32 := (i 0).isLt
      have h1 : (i 1 : Nat) < 4096 := (i 1).isLt
      match a with
      | ⟨0, _⟩ => show 0 * 32 ≤ (i 0 : Nat) ∧ (i 0 : Nat) < 0 * 32 + 32; omega
      | ⟨1, _⟩ => show 0 * 4096 ≤ (i 1 : Nat) ∧ (i 1 : Nat) < 0 * 4096 + 4096; omega⟩

/-- Window 3 is written back once, whole, with `envOut`. -/
theorem flushed_3 (c : Dev nD) (t : Fin cfg0.N) (hf : (cfg0.win 3).flush t = true) :
    (dats m 0 c).flushed 3 t = ((cfg0.win 3).blk t).view.read (Elt F) (envOut m c) := by
  show (cfg0.win 3).cut (grid0.coords t) ((dats m 0 c).after 3 t) = _
  rw [after_3]
  have hz : (fun a => win0_3.index t a * main_call0_v0_1.ty.shape.size a) = fun _ => 0 := funext fun a => by
    match a with
    | ⟨0, _⟩ => exact Nat.zero_mul _
    | ⟨1, _⟩ => exact Nat.zero_mul _
  exact (Memref.read_access_unit_zero (Elt F) main_call0_v0_1 hz (fun a => by rw [congrFun hz a]; simp) (envOut m c)).symm

/-- So its array ends as `envOut`. -/
theorem final_3 (c : Dev nD) : (dats m 0 c).arrAt 3 cfg0.N = envOut m c :=
  (dats m 0 c).arrAt_eq_of_cover 3 (envOut m c) (flushed_3 m c) fun i =>
    ⟨lastOne, (flush0_3 lastOne).mpr rfl, by
      show i ∈ ((View.whole main_call0_v0_1).slice (win0_3.rect lastOne)).set
      rw [View.set_slice_whole, Rect.mem_set_unit]
      intro a
      have h0 : (i 0 : Nat) < 32 := (i 0).isLt
      have h1 : (i 1 : Nat) < 4096 := (i 1).isLt
      match a with
      | ⟨0, _⟩ => show 0 * 32 ≤ (i 0 : Nat) ∧ (i 0 : Nat) < 0 * 32 + 32; omega
      | ⟨1, _⟩ => show 0 * 4096 ≤ (i 1 : Nat) ∧ (i 1 : Nat) < 0 * 4096 + 4096; omega⟩

/-- What the region leaves in an output array, as the host lines after it find it. -/
theorem found_2 (c : Dev nD) :
    Pipeline.withArrays spec0 c (V0 m c) (fun w => (dats m 0 c).arrAt w cfg0.N) (Proc.devRef .tc main_call0_v0_0) = peakOut m c :=
  (Pipeline.withArrays_arr spec0 launch0.win.arr_inj c (V0 m c) _ 2).trans (final_2 m c)
/-- The second output's array holds the envelope after the region. -/
theorem found_3 (c : Dev nD) :
    Pipeline.withArrays spec0 c (V0 m c) (fun w => (dats m 0 c).arrAt w cfg0.N) (Proc.devRef .tc main_call0_v0_1) = envOut m c :=
  (Pipeline.withArrays_arr spec0 launch0.win.arr_inj c (V0 m c) _ 3).trans (final_3 m c)

/-- The first result: the peaks of the first 4094 frames. -/
def peakRes (c : Dev nD) : Vec F S32x4094 .i32 := extractStridedSlice S32x4094 ![0, 0] (peakOut m c) slices_S32x4096_S32x4094_0_0
/-- The second result: the envelope of the first 4094 frames, with a unit axis. -/
def envRes (c : Dev nD) : Vec F S32x4094x1 .f32 :=
  broadcastInDim S32x4094x1 ![0, 1] bcast_S32x4094_S32x4094x1_0_1 (extractStridedSlice S32x4094 ![0, 0] (envOut m c) slices_S32x4096_S32x4094_0_0)

/-- The first result after the operations that follow the region: the peaks cut to 4094 columns. -/
theorem tail_0 (c : Dev nD) : Pipeline.afterTail₀ cfgs (dats m) 0 (V0 m) [hostOps1] c main_v7_0 = peakRes m c := by
  unfold Pipeline.afterTail₀
  simp only [hostOps1, List.flatten_cons, List.flatten_nil, List.append_nil]
  after_results
  rw [found_2]; rfl
/-- The second: the envelope cut to 4094 columns, with a last axis of one. -/
theorem tail_1 (c : Dev nD) : Pipeline.afterTail₀ cfgs (dats m) 0 (V0 m) [hostOps1] c main_v7_1 = envRes m c := by
  unfold Pipeline.afterTail₀
  simp only [hostOps1, List.flatten_cons, List.flatten_nil, List.append_nil]
  after_results
  rw [found_3]; rfl

/-- The idealized kernel's run, its two results named. -/
theorem kernel_run : θ_run defs (onTc (τ := τ) (main (F := F))) ⟨m, fun _ => 0, ρ⟩ (fun r => ∀ c : Dev nD,
      r.2.mem ((c.tc : Thread nD τ).loc main_v7_0) = peakRes m c
      ∧ r.2.mem ((c.tc : Thread nD τ).loc main_v7_1) = envRes m c
      ∧ r.2.mem ((c.tc : Thread nD τ).loc main_arg0) = m ((c.tc : Thread nD τ).loc main_arg0)) :=
  (θ_run defs _ _).mono (fun _ h c =>
    ⟨((h.1 c).2 main_v7_0 (Pipeline.mem_restRefs_of main_v7_0 (by decide) (by decide))).trans (tail_0 m c),
      ((h.1 c).2 main_v7_1 (Pipeline.mem_restRefs_of main_v7_1 (by decide) (by decide))).trans (tail_1 m c),
      ((h.1 c).2 main_arg0 (Pipeline.mem_restRefs_of main_arg0 (by decide) (by decide))).trans (W_main_arg0 m (dats m) c)⟩) (run_all m ρ)

end Cert.Proof.Beat

end
-- ==== Proof.Same.lean ====
/- The kernel as printed and the idealized kernel are the same program, so the run of one is the run of the other. -/
module

public import proofs.«01_k».proof.Defs
public import proofs.«01_k».proof.Proof.Gen.Kernel
public import proofs.«01_k».proof.Proof.Gen.KernelIdeal
public import proofs.«01_k».proof.Proof.Results

@[expose] public section

noncomputable section

namespace Cert.Proof.Same

open Idealize.ShloMosaic Idealize.SL.Sem

attribute [local instance] Cert.Kernel.Gen.facts Cert.KernelIdeal.Gen.facts

set_option backward.isDefEq.respectTransparency false

/-- The kernel function is the same in both programs. -/
theorem body_same : @Cert.Kernel.cc0__rhythm_kernel Bits _ _ = @Cert.KernelIdeal.cc0__rhythm_kernel Bits _ _ := rfl

/-- The one body label runs the same body. -/
theorem label_same : Cert.Kernel.defs₀ (F := Bits) = Cert.KernelIdeal.defs₀ (F := Bits) := by
  unfold Cert.Kernel.defs₀ Cert.KernelIdeal.defs₀
  congr 1
  funext l
  match l with
  | 0 =>
    funext x
    obtain ⟨t, s⟩ := x
    exact congrFun (congrFun (congrFun (congrFun (congrFun (congrFun (congrFun (congrFun (congrFun (congrFun (congrFun body_same _) _) _) _) _) _) _) _) _) _) _

/-- The labels' meanings are the same, the pipeline's included. -/
theorem defs_same : Cert.Kernel.defs (F := Bits) = Cert.KernelIdeal.defs (F := Bits) := by
  show Pipeline.defs _ _ = Pipeline.defs _ _
  rw [label_same]

/-- The main programs are the same. -/
theorem main_same : Cert.Kernel.main (F := Bits) = Cert.KernelIdeal.main (F := Bits) := rfl

/-- The kernel as printed runs, its argument ends as launched, and the machine is quiescent. -/
theorem printed_frame : @Cert.quiescent_Kernel Cert.Kernel.Gen.facts := by
  intro m ρ _
  rw [defs_same, main_same]
  exact Beat.kernel_frame (F := Bits) m ρ

end Cert.Proof.Same

end
-- ==== Proof.Prefix.lean ====
/- The host lines before the kernel: what each staged block holds, element by element, of the pose. -/
module

public import proofs.«01_k».proof.Proof.Launch
public import Idealize.ShloMosaic.Lib.Pipeline.Value

@[expose] public section

set_option maxRecDepth 16384

noncomputable section

namespace Cert.Proof.Beat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A coordinate of the pose: row `b`, frame `n`, joint `j`, x or y. -/
def pt {α : Type} (x : S32x4096x17x3.Idx → α) (b : Fin 32) (n : Fin 4096) (j : Fin 17) (k : Fin 2) : α :=
  x (ix4 b n j (⟨k.val, Nat.lt_of_lt_of_le k.isLt (by decide)⟩ : Fin 3))

/-- The frame after `n`, the last one followed by itself. -/
def nxt (n : Fin 4096) : Fin 4096 := ⟨min (n.val + 1) 4095, Nat.lt_of_le_of_lt (Nat.min_le_right _ _) (by decide)⟩

/-- The pose's planes, coordinate by coordinate. -/
def coordsOf (x : Vec F S32x4096x17x3 .f32) : Vec F S17x2x32x4096 .f32 :=
  transpose S17x2x32x4096 [2, 3, 0, 1] (extractStridedSlice S32x4096x17x2 ![0, 0, 0, 0] x slices_S32x4096x17x3_S32x4096x17x2_0_0_0_0) transposes_S32x4096x17x2_S17x2x32x4096_2_3_0_1

/-- The columns after each block. -/
def edgesOf (x : Vec F S17x2x32x4096 .f32) : Vec F S17x2x32x8 .f32 :=
  concatenate S17x2x32x8 3 [⟨S17x2x32x7, Host.slice S17x2x32x7 ![0, 0, 0, 512] ![1, 1, 1, 512] x slicesBy_S17x2x32x4096_S17x2x32x7_0s1_0s1_0s1_512s512⟩,
    ⟨S17x2x32x1, extractStridedSlice S17x2x32x1 ![0, 0, 0, 4095] x slices_S17x2x32x4096_S17x2x32x1_0_0_0_4095⟩] concatenates_S17x2x32x7_S17x2x32x1_S17x2x32x8_d3

/-- What the region finds in the first input's array. -/
theorem found_planes (c : Dev nD) : V m c main_v1 = coordsOf (m ((c.tc : Thread nD τ).loc main_arg0)) := by
  show StableHlo.after _ _ _ = _
  simp only [hostOps0, List.flatten_cons, List.flatten_nil, List.append_nil]
  after_results
  rfl

/-- And in the second's. -/
theorem found_columns (c : Dev nD) : V m c main_v6 = broadcastInDim S8x17x2x32x1 ![0, 1, 2, 3] bcast_S8x17x2x32_S8x17x2x32x1_0_1_2_3
    (transpose S8x17x2x32 [3, 0, 1, 2] (edgesOf (coordsOf (m ((c.tc : Thread nD τ).loc main_arg0)))) transposes_S17x2x32x8_S8x17x2x32_3_0_1_2) := by
  show StableHlo.after _ _ _ = _
  simp only [hostOps0, List.flatten_cons, List.flatten_nil, List.append_nil]
  after_results
  rfl

/-- A plane read at an index is the pose there. -/
theorem coordsOf_apply (x : Vec F S32x4096x17x3 .f32) (j : Fin 17) (k : Fin 2) (b : Fin 32) (n : Fin 4096) :
    coordsOf x (ix4 j k b n) = pt x b n j k := by
  unfold coordsOf pt
  refine (transpose_apply _ _ _ _ (ix4 b n j k) (fun a => ?_)).trans (extractStridedSlice_apply _ _ _ _ _ (fun a => ?_))
  · match a with | ⟨0, _⟩ => rfl | ⟨1, _⟩ => rfl | ⟨2, _⟩ => rfl | ⟨3, _⟩ => rfl
  · match a with
    | ⟨0, _⟩ => exact (Nat.zero_add _).symm
    | ⟨1, _⟩ => exact (Nat.zero_add _).symm
    | ⟨2, _⟩ => exact (Nat.zero_add _).symm
    | ⟨3, _⟩ => exact (Nat.zero_add _).symm

/-- The frame a block's extra column comes from. -/
def edge (t : Fin 8) : Fin 4096 := ⟨min (512 * t.val + 512) 4095, Nat.lt_of_le_of_lt (Nat.min_le_right _ _) (by decide)⟩

/-- A block's extra column is the plane at the frame after the block. -/
theorem edgesOf_apply (x : Vec F S17x2x32x4096 .f32) (j : Fin 17) (k : Fin 2) (b : Fin 32) (t : Fin 8) :
    edgesOf x (ix4 j k b t) = x (ix4 j k b (edge t)) := by
  unfold edgesOf
  have ht := t.isLt
  by_cases h : t.val < 7
  · refine (concatenate_pair_apply_left (t := S17x2x32x8) (s₁ := S17x2x32x7) (s₂ := S17x2x32x1) (3 : Fin 4) _ _ _ _ rfl (ix4 j k b (⟨t.val, h⟩ : Fin 7)) (fun a => ?_)).trans ?_
    · match a with | ⟨0, _⟩ => rfl | ⟨1, _⟩ => rfl | ⟨2, _⟩ => rfl | ⟨3, _⟩ => rfl
    · unfold Host.slice
      refine congrArg x (funext fun a => Fin.ext ?_)
      match a with
      | ⟨0, _⟩ => show 0 + 1 * j.val = j.val; omega
      | ⟨1, _⟩ => show 0 + 1 * k.val = k.val; omega
      | ⟨2, _⟩ => show 0 + 1 * b.val = b.val; omega
      | ⟨3, _⟩ => show 512 + 512 * t.val = min (512 * t.val + 512) 4095; omega
  · refine (concatenate_pair_apply_right (t := S17x2x32x8) (s₁ := S17x2x32x7) (s₂ := S17x2x32x1) (3 : Fin 4) _ _ _ _ rfl rfl (ix4 j k b (0 : Fin 1)) (fun a ha => ?_) ?_).trans
      (extractStridedSlice_apply _ _ _ _ _ (fun a => ?_))
    · match a with | ⟨0, _⟩ => rfl | ⟨1, _⟩ => rfl | ⟨2, _⟩ => rfl | ⟨3, _⟩ => exact absurd rfl ha
    · show 0 + 7 = t.val; omega
    · match a with
      | ⟨0, _⟩ => exact (Nat.zero_add _).symm
      | ⟨1, _⟩ => exact (Nat.zero_add _).symm
      | ⟨2, _⟩ => exact (Nat.zero_add _).symm
      | ⟨3, _⟩ => show min (512 * t.val + 512) 4095 = 4095 + 0; omega

/-- A point's number below 8. -/
abbrev ptNo (t : Fin cfg0.N) : Fin 8 := ⟨t.val, Nat.lt_of_lt_of_eq t.isLt N_0⟩

/-- The grid coordinate as the index maps spell it. -/
theorem coord_word (t : Fin cfg0.N) : (BitVec.ofNat 32 (grid0.coords t 0).val).toNat = t.val := by
  have h : t.val < 8 := Nat.lt_of_lt_of_eq t.isLt N_0
  rw [coord_val, BitVec.toNat_ofNat]
  omega

/-- The block of the first input at a point: 512 frames of every plane. -/
theorem block_planes (c : Dev nD) (t : Fin cfg0.N) (j : Fin 17) (k : Fin 2) (b : Fin 32) (l : Fin 512) (n : Fin 4096) (hn : n.val = 512 * t.val + l.val) :
    (iblk m c 0 t : Vec F S17x2x32x512 .f32) (ix4 j k b l) = pt (m ((c.tc : Thread nD τ).loc main_arg0)) b n j k := by
  rw [← coordsOf_apply, ← found_planes]
  show V m c main_v1 ((win0_0.rect t).emb (ix4 j k b l)) = _
  refine congrArg (V m c main_v1) (funext fun a => Fin.ext ?_)
  refine (Pipeline.Window.rect_emb_val win0_0 t (ix4 j k b l) a).trans ?_
  match a with
  | ⟨0, _⟩ => show 0 * 17 + j.val = j.val; omega
  | ⟨1, _⟩ => show 0 * 2 + k.val = k.val; omega
  | ⟨2, _⟩ => show 0 * 32 + b.val = b.val; omega
  | ⟨3, _⟩ => show (BitVec.ofNat 32 (grid0.coords t 0).val).toNat * 512 + l.val = n.val; rw [coord_word]; omega

/-- The block of the second input at a point: every plane at the frame after the block. -/
theorem block_columns (c : Dev nD) (t : Fin cfg0.N) (j : Fin 17) (k : Fin 2) (b : Fin 32) :
    (iblk m c 1 t : Vec F S1x17x2x32x1 .f32) (ix5 0 j k b 0) = pt (m ((c.tc : Thread nD τ).loc main_arg0)) b (edge (ptNo t)) j k := by
  have e : (iblk m c 1 t : Vec F S1x17x2x32x1 .f32) (ix5 0 j k b 0) = V m c main_v6 (ix5 (ptNo t) j k b 0) := by
    show V m c main_v6 ((win0_1.rect t).emb (ix5 0 j k b 0)) = _
    refine congrArg (V m c main_v6) (funext fun a => Fin.ext ?_)
    refine (Pipeline.Window.rect_emb_val win0_1 t (ix5 0 j k b 0) a).trans ?_
    match a with
    | ⟨0, _⟩ => show (BitVec.ofNat 32 (grid0.coords t 0).val).toNat * 1 + 0 = t.val; rw [coord_word]; omega
    | ⟨1, _⟩ => show 0 * 17 + j.val = j.val; omega
    | ⟨2, _⟩ => show 0 * 2 + k.val = k.val; omega
    | ⟨3, _⟩ => show 0 * 32 + b.val = b.val; omega
    | ⟨4, _⟩ => rfl
  rw [e, found_columns]
  refine (broadcastInDim_apply _ _ _ _ (ix4 (ptNo t) j k b) (fun a => ?_)).trans ((transpose_apply _ _ _ _ (ix4 j k b (ptNo t)) (fun a => ?_)).trans ?_)
  · match a with
    | ⟨0, _⟩ => show t.val = if (8 : ℕ) = 1 then 0 else t.val; rw [if_neg (by decide)]
    | ⟨1, _⟩ => show j.val = if (17 : ℕ) = 1 then 0 else j.val; rw [if_neg (by decide)]
    | ⟨2, _⟩ => show k.val = if (2 : ℕ) = 1 then 0 else k.val; rw [if_neg (by decide)]
    | ⟨3, _⟩ => show b.val = if (32 : ℕ) = 1 then 0 else b.val; rw [if_neg (by decide)]
  · match a with | ⟨0, _⟩ => rfl | ⟨1, _⟩ => rfl | ⟨2, _⟩ => rfl | ⟨3, _⟩ => rfl
  · rw [edgesOf_apply, coordsOf_apply]

end Cert.Proof.Beat

end
-- ==== Proof.Planes.lean ====
/- Two-axis arrays read by row and column: pieces joined along the columns, pieces cut out, and sums written one term after another. -/
module

public import proofs.«01_k».proof.Proof.Prefix
public import Idealize.ShloMosaic.PureOps.Ideal.Laws

@[expose] public section

set_option maxRecDepth 16384

noncomputable section

namespace Cert.Proof.Beat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

section Layout

variable {α : Type}

/-- Two pieces joined along the columns, read in the first. -/
theorem join_left {R C p q : ℕ} (x : (⟨2, ![R, p]⟩ : Shape).Idx → α) (y : (⟨2, ![R, q]⟩ : Shape).Idx → α)
    (h : Shape.Concatenates [⟨2, ![R, p]⟩, ⟨2, ![R, q]⟩] ⟨2, ![R, C]⟩ 1) (b : Fin R) (n : Fin C) (n' : Fin p) (hn : n'.val = n.val) :
    concatenate ⟨2, ![R, C]⟩ 1 [⟨⟨2, ![R, p]⟩, x⟩, ⟨⟨2, ![R, q]⟩, y⟩] h (ix2 b n) = x (ix2 b n') :=
  concatenate_pair_apply_left (t := ⟨2, ![R, C]⟩) (s₁ := ⟨2, ![R, p]⟩) (s₂ := ⟨2, ![R, q]⟩) (1 : Fin 2) x y h _ rfl _ fun a => by
    match a with
    | ⟨0, _⟩ => rfl
    | ⟨1, _⟩ => exact hn

/-- And in the second. -/
theorem join_right {R C p q : ℕ} (x : (⟨2, ![R, p]⟩ : Shape).Idx → α) (y : (⟨2, ![R, q]⟩ : Shape).Idx → α)
    (h : Shape.Concatenates [⟨2, ![R, p]⟩, ⟨2, ![R, q]⟩] ⟨2, ![R, C]⟩ 1) (b : Fin R) (n : Fin C) (n' : Fin q) (hn : n'.val + p = n.val) :
    concatenate ⟨2, ![R, C]⟩ 1 [⟨⟨2, ![R, p]⟩, x⟩, ⟨⟨2, ![R, q]⟩, y⟩] h (ix2 b n) = y (ix2 b n') :=
  concatenate_pair_apply_right (t := ⟨2, ![R, C]⟩) (s₁ := ⟨2, ![R, p]⟩) (s₂ := ⟨2, ![R, q]⟩) (1 : Fin 2) x y h _ rfl rfl _ (fun a ha => by
    match a with
    | ⟨0, _⟩ => rfl
    | ⟨1, _⟩ => exact absurd rfl ha) hn

/-- A piece cut out of the columns from `o` on. -/
theorem cut_cols {R C p o : ℕ} (x : (⟨2, ![R, C]⟩ : Shape).Idx → α) (h : (⟨2, ![R, C]⟩ : Shape).Slices ![0, o] ⟨2, ![R, p]⟩)
    (b : Fin R) (n : Fin p) (n' : Fin C) (hn : n'.val = o + n.val) :
    extractStridedSlice ⟨2, ![R, p]⟩ ![0, o] x h (ix2 b n) = x (ix2 b n') :=
  extractStridedSlice_apply _ _ _ _ _ fun a => by
    match a with
    | ⟨0, _⟩ => exact (Nat.zero_add _).symm
    | ⟨1, _⟩ => exact hn

/-- A column of one value per row, spread over the columns. -/
theorem spread_cols {R C : ℕ} (x : (⟨2, ![R, 1]⟩ : Shape).Idx → α) (h : (⟨2, ![R, 1]⟩ : Shape).Broadcasts ⟨2, ![R, C]⟩)
    (b : Fin R) (n : Fin C) : broadcastTo ⟨2, ![R, C]⟩ x h (ix2 b n) = x (ix2 b 0) :=
  broadcastTo_apply _ _ _ _ fun a => by
    match a with
    | ⟨0, _⟩ =>
      have := b.isLt
      show b.val = if R = 1 then 0 else b.val
      split <;> omega
    | ⟨1, _⟩ => exact (if_pos rfl).symm

end Layout

/-- A sum of seventeen planes written one after another, read at an index. -/
theorem sumTo_apply (f : Fin 17 → FVec Ideal S32x512 .f32) (y : S32x512.Idx) : ∀ (n : ℕ) (h : n < 17),
    sumTo f n h y = ∑ j : Fin (n + 1), (f ⟨j.val, Nat.lt_of_lt_of_le j.isLt h⟩ y : EReal)
  | 0, h => by
    rw [Fin.sum_univ_one]; rfl
  | n + 1, h => by
    rw [Fin.sum_univ_castSucc]
    exact congrArg (· + (f ⟨n + 1, h⟩ y : EReal)) (sumTo_apply f y n (Nat.lt_of_succ_lt h))

/-- Zero plus sixteen planes written one after another, read at an index. -/
theorem accTo_apply (f : Fin 16 → FVec Ideal S32x4096 .f32) (y : S32x4096.Idx) : ∀ (n : ℕ) (h : n ≤ 16),
    accTo f n h y = ∑ j : Fin n, (f ⟨j.val, Nat.lt_of_lt_of_le j.isLt h⟩ y : EReal)
  | 0, h => by
    rw [Fin.sum_univ_zero]; exact Ideal.ofBits_zero_f32
  | n + 1, h => by
    rw [Fin.sum_univ_castSucc]
    exact congrArg (· + (f ⟨n, h⟩ y : EReal)) (accTo_apply f y n (Nat.le_of_succ_le h))

end Cert.Proof.Beat

end
-- ==== Proof.Hist.lean ====
/- The histogram the kernel accumulates, element by element, at the extended reals. -/
module

public import proofs.«01_k».proof.Proof.Planes

@[expose] public section

set_option maxRecDepth 16384

noncomputable section

namespace Cert.Proof.Beat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt Ideal) ℓ)

/-- The magnitude of one motion. -/
def magS (u v : Ideal .f32) : Ideal .f32 := FloatOps.sqrt (FloatOps.addf (FloatOps.mulf u u) (FloatOps.mulf v v))

/-- The angle of one motion in degrees. -/
def degS (u v : Ideal .f32) : Ideal .f32 := FloatOps.mulf (FloatOps.atan2 v u) (FloatOps.ofBits .f32 0x42652EE1#32)

/-- One angle reduced modulo 180 the floored way. -/
def modS (a : Ideal .f32) : Ideal .f32 :=
  Scalar.select (IntOp.andi (IntOp.xori (FloatOps.cmpf .olt (FloatOps.remf a (FloatOps.ofBits .f32 0x43340000#32)) (FloatOps.ofBits .f32 0x00000000#32))
        (FloatOps.cmpf .olt (FloatOps.ofBits .f32 0x43340000#32 : Ideal .f32) (FloatOps.ofBits .f32 0x00000000#32)))
      (FloatOps.cmpf .one (FloatOps.remf a (FloatOps.ofBits .f32 0x43340000#32)) (FloatOps.ofBits .f32 0x00000000#32)))
    (FloatOps.addf (FloatOps.remf a (FloatOps.ofBits .f32 0x43340000#32)) (FloatOps.ofBits .f32 0x43340000#32))
    (FloatOps.remf a (FloatOps.ofBits .f32 0x43340000#32))

/-- The whole number of degrees, as a word. -/
def wordS (u v : Ideal .f32) : BitVec 32 := FloatOps.fptosi 32 (FloatOps.floor (modS (degS u v)))

/-- The bin of one motion. -/
def binS (u v : Ideal .f32) : BitVec 32 := IntOp.andi (wordS u v) 15#32

/-- What one motion adds to bin `w`. -/
def partS (w : BitVec 32) (u v : Ideal .f32) : EReal := if binS u v = w then magS u v else 0

/-- The motion of a joint's coordinate from frame `n` to the next, the last frame against itself. -/
def motS (x : S32x4096x17x3.Idx → EReal) (b : Fin 32) (n : Fin 4096) (j : Fin 17) (k : Fin 2) : EReal :=
  pt x b (nxt n) j k - pt x b n j k

/-- A bin's total at a frame. -/
def totS (x : S32x4096x17x3.Idx → EReal) (w : Fin 16) (b : Fin 32) (n : Fin 4096) : EReal :=
  ∑ j : Fin 17, partS (BitVec.ofNat 32 w.val) (motS x b n j 0) (motS x b n j 1)

/-- One joint's plane, read at an index. -/
theorem partOf_apply (w : BitVec 32) (u v : FVec Ideal S32x512 .f32) (y : S32x512.Idx) : partOf w u v y = partS w (u y) (v y) := by
  have e : partOf w u v y = Scalar.select (IntOp.cmpi .eq (binS (u y) (v y)) w) (magS (u y) (v y)) (FloatOps.ofBits .f32 0x00000000#32 : Ideal .f32) := rfl
  rw [e]
  unfold partS
  by_cases h : binS (u y) (v y) = w
  · rw [if_pos h, h]
    simp [Scalar.select, IntOp.cmpi]
  · rw [if_neg h]
    have hb : (binS (u y) (v y) == w) = false := beq_eq_false_iff_ne.mpr h
    simp [Scalar.select, IntOp.cmpi, hb, Ideal.ofBits_zero_f32]

/-- One coordinate's forward difference in a block, read at an index: the motion at the frame. -/
theorem stepOf_apply (c : Dev nD) (j : Fin 17) (k : Fin 2) (b : Fin 32) (n : Fin 4096) :
    stepOf (planes (iblk m c 0 (pointOf n.val n.isLt)) j k) (columns (iblk m c 1 (pointOf n.val n.isLt)) j k)
        (ix2 b (⟨n.val % 512, Nat.mod_lt _ (by decide)⟩ : Fin 512))
      = motS (m ((c.tc : Thread nD τ).loc main_arg0)) b n j k := by
  have hn := n.isLt
  have hp : (pointOf n.val n.isLt).val = n.val / 512 := rfl
  have flat : ∀ (l : Fin 512) (n' : Fin 4096), n'.val = 512 * (n.val / 512) + l.val →
      (shapeCast S32x512 (planes (iblk m c 0 (pointOf n.val n.isLt)) j k) shapeCasts_S1x1x32x512_S32x512 : FVec Ideal S32x512 .f32) (ix2 b l)
        = pt (m ((c.tc : Thread nD τ).loc main_arg0)) b n' j k := fun l n' hl => by
    refine (shapeCast_apply _ _ _ (ix4 0 0 b l) ?_).trans (block_planes m c _ j k b l n' hl)
    rw [Shape.rowMajor_val_four, Shape.rowMajor_val_two]
    show ((0 * 1 + 0) * 32 + b.val) * 512 + l.val = b.val * 512 + l.val
    omega
  show (_ - _ : EReal) = _ - _
  refine congrArg₂ (fun p q : EReal => p - q) ?_ (flat _ n (by show n.val = 512 * (n.val / 512) + n.val % 512; omega))
  by_cases h : n.val % 512 < 511
  · refine (join_left (C := 512) (p := 511) (q := 1) _ _ _ _ _ (⟨n.val % 512, h⟩ : Fin 511) rfl).trans
      ((cut_cols _ _ _ _ (⟨n.val % 512 + 1, by omega⟩ : Fin 512) (Nat.add_comm _ _)).trans (flat _ _ ?_))
    show min (n.val + 1) 4095 = 512 * (n.val / 512) + (n.val % 512 + 1)
    omega
  · refine (join_right (C := 512) (p := 511) (q := 1) _ _ _ _ _ (0 : Fin 1) (by show 0 + 511 = n.val % 512; omega)).trans ?_
    refine (shapeCast_apply _ _ _ (ix5 0 0 0 b 0) ?_).trans ((block_columns m c _ j k b).trans ?_)
    · rw [Shape.rowMajor_val_five, Shape.rowMajor_val_two]
      show (((0 * 1 + 0) * 1 + 0) * 32 + b.val) * 1 + 0 = b.val * 1 + 0
      omega
    · refine congrArg (fun n' => pt (m ((c.tc : Thread nD τ).loc main_arg0)) b n' j k) (Fin.ext ?_)
      show min (512 * (n.val / 512) + 512) 4095 = min (n.val + 1) 4095
      omega

/-- The histogram's element is the bin's total. -/
theorem hist_apply (c : Dev nD) (w : Fin 16) (b : Fin 32) (n : Fin 4096) :
    hist m c (ix3 w b n) = totS (m ((c.tc : Thread nD τ).loc main_arg0)) w b n := by
  show slab _ _ w (ix3 (0 : Fin 1) b (⟨n.val % 512, Nat.mod_lt _ (by decide)⟩ : Fin 512)) = _
  unfold slab slabOf totS
  refine (shapeCast_apply _ _ _ (ix2 b (⟨n.val % 512, Nat.mod_lt _ (by decide)⟩ : Fin 512)) ?_).trans ((sumTo_apply _ _ 16 (by decide)).trans
    (Finset.sum_congr rfl fun j _ => (partOf_apply _ _ _ _).trans (congrArg₂ (partS _) (stepOf_apply m c j 0 b n) (stepOf_apply m c j 1 b n))))
  rw [Shape.rowMajor_val_three, Shape.rowMajor_val_two]
  show b.val * 512 + n.val % 512 = (0 * 32 + b.val) * 512 + n.val % 512
  omega

end Cert.Proof.Beat

end
-- ==== Proof.RefHist.lean ====
/- The histogram the reference forms, element by element, at the extended reals: the same totals as the kernel's. -/
module

public import proofs.«01_k».proof.Proof.Hist
public import proofs.«01_k».proof.Proof.Gen.ReferenceIdeal.Read
public import Idealize.ShloMosaic.Lib.Affine

@[expose] public section

set_option maxRecDepth 16384

noncomputable section

namespace Cert.Proof.Beat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

open Cert.ReferenceIdeal.Read

variable {F : FTy → Type} [FloatOps F]

local notation "𝕄" => MT nD τ sig Unit (Elt F) ℕ (UR sig nD τ) ℕ

variable (x : S32x4096x17x3.Idx → EReal)

/-- Frame `t` of 4095 among the 4096. -/
abbrev up (t : Fin 4095) : Fin 4096 := ⟨t.val, Nat.lt_trans t.isLt (by decide)⟩

/-- The reference's motion is the forward difference. -/
theorem ref_motion (b : Fin 32) (t : Fin 4095) (j : Fin 17) (k : Fin 2) :
    val_main_v3 (F := Ideal) x (ix4 b t j k) = motS x b (up t) j k := by
  rw [val_main_v3_apply, val_main_v2_apply, val_main_v0_apply, val_main_v1_apply]
  have ht := t.isLt
  show (_ - _ : EReal) = _ - _
  refine congrArg₂ (fun p q : EReal => p - q) (congrArg x (funext fun a => Fin.ext ?_)) (congrArg x (funext fun a => Fin.ext ?_))
  · match a with
    | ⟨0, _⟩ => rfl
    | ⟨1, _⟩ => show 1 + t.val = min (t.val + 1) 4095; omega
    | ⟨2, _⟩ => rfl
    | ⟨3, _⟩ => rfl
  · match a with | ⟨0, _⟩ => rfl | ⟨1, _⟩ => rfl | ⟨2, _⟩ => rfl | ⟨3, _⟩ => rfl

/-- The reference's x and y motions. -/
theorem ref_x (b : Fin 32) (t : Fin 4095) (j : Fin 17) : val_main_v5 (F := Ideal) x (ix3 b t j) = motS x b (up t) j 0 := by
  rw [val_main_v5_apply, val_main_v4_apply, ← ref_motion]
  refine congrArg _ (funext fun a => Fin.ext ?_)
  have hb := b.isLt; have ht := t.isLt; have hj := j.isLt
  match a with
  | ⟨0, _⟩ => show ((b.val * 4095 + t.val) * 17 + j.val) / 69615 = b.val; omega
  | ⟨1, _⟩ => show ((b.val * 4095 + t.val) * 17 + j.val) / 17 % 4095 = t.val; omega
  | ⟨2, _⟩ => show ((b.val * 4095 + t.val) * 17 + j.val) / 1 % 17 = j.val; omega
  | ⟨3, _⟩ => rfl
@[inherit_doc ref_x] theorem ref_y (b : Fin 32) (t : Fin 4095) (j : Fin 17) : val_main_v7 (F := Ideal) x (ix3 b t j) = motS x b (up t) j 1 := by
  rw [val_main_v7_apply, val_main_v6_apply, ← ref_motion]
  refine congrArg _ (funext fun a => Fin.ext ?_)
  have hb := b.isLt; have ht := t.isLt; have hj := j.isLt
  match a with
  | ⟨0, _⟩ => show ((b.val * 4095 + t.val) * 17 + j.val) / 69615 = b.val; omega
  | ⟨1, _⟩ => show ((b.val * 4095 + t.val) * 17 + j.val) / 17 % 4095 = t.val; omega
  | ⟨2, _⟩ => show ((b.val * 4095 + t.val) * 17 + j.val) / 1 % 17 = j.val; omega
  | ⟨3, _⟩ => rfl

/-- The reference's magnitude. -/
theorem ref_mag (b : Fin 32) (t : Fin 4095) (j : Fin 17) :
    val_main_v8 (F := Ideal) x (ix3 b t j) = magS (motS x b (up t) j 0) (motS x b (up t) j 1) := by
  rw [val_main_v8_apply, val_main_call0_v1_apply, Fin.sum_univ_two, val_main_call0_v0_apply, val_main_call0_v0_apply]
  have e : ∀ k : Fin 2, idx_main_call0_v1 (ix3 b t j) k = ix4 b t j k := fun k => funext fun a => by
    match a with | ⟨0, _⟩ => rfl | ⟨1, _⟩ => rfl | ⟨2, _⟩ => rfl | ⟨3, _⟩ => rfl
  rw [e, e, ref_motion, ref_motion, val_main_call0_cst_apply]
  show Ideal.sqrt (Ideal.ofBits .f32 0x00000000#32 + _) = Ideal.sqrt _
  rw [Ideal.ofBits_zero_f32, zero_add]
  rfl

/-- On single bits, different is exclusive or. -/
theorem ne_bits (p q : BitVec 1) : IntOp.cmpi .ne p q = IntOp.xori p q := by
  revert p q; decide

/-- The reference's whole number of degrees. -/
theorem ref_word (b : Fin 32) (t : Fin 4095) (j : Fin 17) :
    val_main_v14 (F := Ideal) x (ix3 b t j) = wordS (motS x b (up t) j 0) (motS x b (up t) j 1) := by
  simp only [val_main_v14_apply, val_main_v13_apply, val_main_v12_apply, val_main_call1_v12_apply, val_main_call1_v11_apply,
    val_main_call1_v10_apply, val_main_call1_v9_apply, val_main_call1_v8_apply, val_main_call1_v7_apply, val_main_call1_v6_apply,
    val_main_call1_v5_apply, val_main_call1_v4_apply, val_main_call1_v3_apply, val_main_call1_v2_apply, val_main_call1_v1_apply,
    val_main_call1_v0_apply, val_main_call1_cst_apply, val_main_call1_cst_0_apply, val_main_call1_cst_1_apply, val_main_cst_0_apply,
    val_main_v11_apply, val_main_v10_apply, val_main_cst_apply, val_main_v9_apply, ref_x, ref_y, ne_bits]
  rfl

/-- The floored remainder of a word by sixteen is its low four bits. -/
theorem low_bits (w : BitVec 32) :
    Scalar.select (IntOp.andi (IntOp.cmpi .ne (IntOp.cmpi .slt (IntOp.remsi .host w 16#32) 0#32) (IntOp.cmpi .slt (16#32 : BitVec 32) 0#32))
        (IntOp.cmpi .ne (IntOp.remsi .host w 16#32) 0#32)) (IntOp.addi (IntOp.remsi .host w 16#32) 16#32) (IntOp.remsi .host w 16#32)
      = IntOp.andi w 15#32 := by
  rw [IntOp.remsi_of_pos .host (by decide)]
  have hw := w.isLt
  have h16 : (16#32 : BitVec 32).msb = false := by decide
  have hand : (w &&& 15#32).toNat = w.toNat % 16 := by
    rw [BitVec.toNat_and]; exact Nat.and_two_pow_sub_one_eq_mod _ 4
  have hz : IntOp.cmpi .slt (16#32 : BitVec 32) 0#32 = 0#1 := by decide
  have hp : ∀ p : BitVec 1, IntOp.cmpi .ne p 0#1 = p := by decide
  rw [hz, hp]
  show _ = w &&& 15#32
  apply BitVec.eq_of_toNat_eq
  rw [hand]
  cases hm : w.msb with
  | false =>
    have e : (w.srem 16#32).toNat = w.toNat % 16 := by
      rw [BitVec.srem_eq, hm, h16]; simp
    have hs : IntOp.cmpi .slt (w.srem 16#32) 0#32 = 0#1 := by
      have : (w.srem 16#32).slt 0#32 = false := by
        rw [BitVec.slt_zero_eq_msb, BitVec.msb_eq_decide]
        simp; omega
      show BitVec.ofBool _ = _
      rw [this]; rfl
    have ha : ∀ p : BitVec 1, IntOp.andi 0#1 p = 0#1 := by decide
    rw [hs, ha]
    show (w.srem 16#32).toNat = _
    exact e
  | true =>
    have hlo : 2 ^ 31 ≤ w.toNat := by
      rw [BitVec.msb_eq_decide] at hm; simpa using hm
    have e : (w.srem 16#32).toNat = (2 ^ 32 - (2 ^ 32 - w.toNat) % 16) % 2 ^ 32 := by
      rw [BitVec.srem_eq, hm, h16]; simp
    by_cases h0 : (2 ^ 32 - w.toNat) % 16 = 0
    · have z : w.srem 16#32 = 0#32 := BitVec.eq_of_toNat_eq (by rw [e, h0]; rfl)
      rw [z]
      show 0 = _
      omega
    · have hs : IntOp.cmpi .slt (w.srem 16#32) 0#32 = 1#1 := by
        have : (w.srem 16#32).slt 0#32 = true := by
          rw [BitVec.slt_zero_eq_msb, BitVec.msb_eq_decide]
          simp; omega
        show BitVec.ofBool _ = _
        rw [this]; rfl
      have hn : IntOp.cmpi .ne (w.srem 16#32) 0#32 = 1#1 := by
        have : (w.srem 16#32 != 0#32) = true := by
          rw [bne_iff_ne]; intro h; rw [h] at e; simp at e; omega
        show BitVec.ofBool _ = _
        rw [this]; rfl
      rw [hs, hn]
      show (w.srem 16#32 + 16#32).toNat = _
      rw [BitVec.toNat_add, e]
      simp; omega

/-- The reference's bin. -/
theorem ref_bin (b : Fin 32) (t : Fin 4095) (j : Fin 17) :
    val_main_v15 (F := Ideal) x (ix3 b t j) = binS (motS x b (up t) j 0) (motS x b (up t) j 1) := by
  unfold binS
  rw [← low_bits, ← ref_word]
  simp only [val_main_v15_apply, val_main_call2_v14_apply, val_main_call2_v13_apply, val_main_call2_v12_apply, val_main_call2_v11_apply,
    val_main_call2_v10_apply, val_main_call2_v9_apply, val_main_call2_v8_apply, val_main_call2_v7_apply, val_main_call2_v6_apply,
    val_main_call2_v5_apply, val_main_call2_v4_apply, val_main_call2_v3_apply, val_main_call2_v2_apply, val_main_call2_v1_apply,
    val_main_call2_v0_apply, val_main_c_apply, val_main_call2_c_apply, val_main_call2_c_0_apply, val_main_call2_c_1_apply,
    val_main_call2_c_2_apply, val_main_call2_c_3_apply]
  rfl

/-- The reference's histogram element is the bin's total. -/
theorem ref_total (b : Fin 32) (t : Fin 4095) (w : Fin 16) :
    val_main_v17 (F := Ideal) x (ix3 b t w) = totS x w b (up t) := by
  rw [val_main_v17_apply]
  unfold totS
  refine Finset.sum_congr rfl fun j _ => ?_
  have e1 : lidx_main_v17 (ix3 b t w) j = ix3 b t j := funext fun a => by
    match a with | ⟨0, _⟩ => rfl | ⟨1, _⟩ => rfl | ⟨2, _⟩ => rfl
  have e2 : idx_main_call3_v0 (idx_main_call3_v2 (ridx_main_v17 (ix3 b t w) j)) = ix3 b t j := funext fun a => by
    match a with | ⟨0, _⟩ => rfl | ⟨1, _⟩ => rfl | ⟨2, _⟩ => rfl
  rw [e1, ref_mag, val_main_v16_apply, val_main_call3_v4_apply, val_main_call3_v2_apply, val_main_call3_v0_apply, e2, ref_bin,
    val_main_call3_v3_apply, val_main_call3_v1_apply]
  unfold partS
  show magS _ _ * (((BitVec.ofBool (binS (motS x b (up t) j 0) (motS x b (up t) j 1) == BitVec.ofNat 32 w.val)).toNat : ℝ) : EReal) = _
  by_cases h : binS (motS x b (up t) j 0) (motS x b (up t) j 1) = BitVec.ofNat 32 w.val
  · rw [if_pos h, beq_iff_eq.mpr h]
    simp
  · rw [if_neg h, beq_eq_false_iff_ne.mpr h]
    simp

end Cert.Proof.Beat

end
-- ==== Proof.Rhythm.lean ====
/- The rhythm on finite poses: every magnitude and total is a real number, the two programs sum the same rises, and the two frames only the kernel has add nothing. -/
module

public import proofs.«01_k».proof.Proof.RefHist

@[expose] public section

set_option maxRecDepth 16384

noncomputable section

namespace Cert.Proof.Beat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open Cert.ReferenceIdeal.Read

variable {F : FTy → Type} [FloatOps F]

local notation "𝕄" => MT nD τ sig Unit (Elt F) ℕ (UR sig nD τ) ℕ

variable (x : S32x4096x17x3.Idx → EReal)

/-- Every x and y coordinate of the pose is a real number. -/
def Finite : Prop := ∀ (b : Fin 32) (n : Fin 4096) (j : Fin 17) (k : Fin 2), ∃ r : ℝ, pt x b n j k = (r : EReal)

/-- A value that is a real number at least zero. -/
def IsSize (e : EReal) : Prop := ∃ r : ℝ, 0 ≤ r ∧ e = (r : EReal)

/-- Zero is one, -/
theorem isSize_zero : IsSize 0 := ⟨0, le_refl _, EReal.coe_zero.symm⟩

/-- the sum of two is one, -/
theorem IsSize.add {p q : EReal} : IsSize p → IsSize q → IsSize (p + q) := by
  rintro ⟨r, hr, rfl⟩ ⟨s, hs, rfl⟩
  exact ⟨r + s, add_nonneg hr hs, (EReal.coe_add r s).symm⟩

/-- and so is the sum of a family. -/
theorem isSize_sum {ι : Type} (s : Finset ι) (f : ι → EReal) (h : ∀ i, IsSize (f i)) : IsSize (∑ i ∈ s, f i) :=
  Finset.sum_induction f IsSize (fun _ _ => IsSize.add) isSize_zero fun i _ => h i

/-- It is at least zero. -/
theorem IsSize.nonneg {p : EReal} : IsSize p → 0 ≤ p := by
  rintro ⟨r, hr, rfl⟩
  exact EReal.coe_nonneg.mpr hr

/-- The magnitude of a real motion is a real number at least zero. -/
theorem magS_isSize (u v : ℝ) : IsSize (magS (u : EReal) (v : EReal)) := by
  refine ⟨Real.sqrt (u * u + v * v), Real.sqrt_nonneg _, ?_⟩
  show Ideal.sqrt ((u : EReal) * (u : EReal) + (v : EReal) * (v : EReal)) = _
  rw [← EReal.coe_mul, ← EReal.coe_mul, ← EReal.coe_add]
  show (if u * u + v * v < 0 then (⊥ : EReal) else _) = _
  rw [if_neg (not_lt.mpr (add_nonneg (mul_self_nonneg u) (mul_self_nonneg v)))]

/-- No motion has magnitude zero. -/
theorem magS_zero : magS (0 : EReal) (0 : EReal) = (0 : EReal) := by
  show Ideal.sqrt ((0 : EReal) * 0 + 0 * 0) = _
  rw [mul_zero, add_zero, ← EReal.coe_zero]
  show (if (0 : ℝ) < 0 then (⊥ : EReal) else _) = _
  rw [if_neg (lt_irrefl _), Real.sqrt_zero]

variable {x}

/-- A motion of a finite pose is a real number. -/
theorem Finite.motion (hx : Finite x) (b : Fin 32) (n : Fin 4096) (j : Fin 17) (k : Fin 2) : ∃ r : ℝ, motS x b n j k = (r : EReal) := by
  obtain ⟨p, hp⟩ := hx b (nxt n) j k
  obtain ⟨q, hq⟩ := hx b n j k
  exact ⟨p - q, by unfold motS; rw [hp, hq, EReal.coe_sub]⟩

/-- What one motion adds to a bin is a real number at least zero. -/
theorem Finite.part (hx : Finite x) (w : BitVec 32) (b : Fin 32) (n : Fin 4096) (j : Fin 17) :
    IsSize (partS w (motS x b n j 0) (motS x b n j 1)) := by
  obtain ⟨u, hu⟩ := hx.motion b n j 0
  obtain ⟨v, hv⟩ := hx.motion b n j 1
  unfold partS
  split
  · rw [hu, hv]; exact magS_isSize u v
  · exact isSize_zero

/-- A bin's total at a frame is a real number at least zero. -/
theorem Finite.total (hx : Finite x) (w : Fin 16) (b : Fin 32) (n : Fin 4096) : IsSize (totS x w b n) :=
  isSize_sum _ _ fun j => hx.part _ b n j

/-- At the last frame every total is zero. -/
theorem Finite.total_last (hx : Finite x) (w : Fin 16) (b : Fin 32) (n : Fin 4096) (hn : n.val = 4095) : totS x w b n = 0 := by
  have e : nxt n = n := Fin.ext (by show min (n.val + 1) 4095 = n.val; omega)
  have z : ∀ j k, motS x b n j k = 0 := fun j k => by
    obtain ⟨r, hr⟩ := hx b n j k
    unfold motS
    rw [e, hr, ← EReal.coe_sub, sub_self, EReal.coe_zero]
  unfold totS
  refine Finset.sum_eq_zero fun j _ => ?_
  rw [z, z]
  unfold partS
  split
  · exact magS_zero
  · rfl

/-! ## The rhythm -/

/-- The rise of a bin's total from a frame to the next, falls counting as zero. -/
def gainS (x : S32x4096x17x3.Idx → EReal) (w : Fin 16) (b : Fin 32) (n : Fin 4096) : EReal :=
  max (totS x w b (nxt n) - totS x w b n) 0

/-- The rhythm of a frame: the rises summed over the bins. -/
def rhyS (x : S32x4096x17x3.Idx → EReal) (b : Fin 32) (n : Fin 4096) : EReal := ∑ w : Fin 16, gainS x w b n

/-- A rise is a real number at least zero. -/
theorem Finite.gain (hx : Finite x) (w : Fin 16) (b : Fin 32) (n : Fin 4096) : IsSize (gainS x w b n) := by
  obtain ⟨p, -, hp⟩ := hx.total w b (nxt n)
  obtain ⟨q, -, hq⟩ := hx.total w b n
  refine ⟨max (p - q) 0, le_max_right _ _, ?_⟩
  unfold gainS
  rw [hp, hq, ← EReal.coe_sub, ← EReal.coe_zero]
  exact (EReal.coe_strictMono.monotone.map_max).symm

/-- The rhythm is a real number at least zero. -/
theorem Finite.rhythm (hx : Finite x) (b : Fin 32) (n : Fin 4096) : IsSize (rhyS x b n) := isSize_sum _ _ fun w => hx.gain w b n

/-- The last two frames have no rhythm. -/
theorem Finite.rhythm_end (hx : Finite x) (b : Fin 32) (n : Fin 4096) (hn : 4094 ≤ n.val) : rhyS x b n = 0 := by
  have h := n.isLt
  refine Finset.sum_eq_zero fun w _ => max_eq_right ?_
  rw [hx.total_last w b (nxt n) (by show min (n.val + 1) 4095 = 4095; omega), zero_sub]
  obtain ⟨q, h0, hq⟩ := hx.total w b n
  rw [hq, ← EReal.coe_neg, ← EReal.coe_zero]
  exact EReal.coe_le_coe_iff.mpr (neg_nonpos.mpr h0)

variable (m : (ℓ : Loc nD τ sig) → Buf (Elt Ideal) ℓ)

/-- A bin's forward difference, read at an index. -/
theorem riseOf_apply (r : Vec Ideal S1x32x4096 .f32) (b : Fin 32) (n : Fin 4096) :
    (riseOf r (ix2 b n) : EReal) = (r (ix3 0 b (nxt n)) : EReal) - (r (ix3 0 b n) : EReal) := by
  have hn := n.isLt
  have flat : ∀ n' : Fin 4096, (shapeCast S32x4096 r shapeCasts_S1x32x4096_S32x4096 : FVec Ideal S32x4096 .f32) (ix2 b n') = r (ix3 0 b n') := fun n' => by
    refine shapeCast_apply _ _ _ (ix3 0 b n') ?_
    rw [Shape.rowMajor_val_three, Shape.rowMajor_val_two]
    show (0 * 32 + b.val) * 4096 + n'.val = b.val * 4096 + n'.val
    omega
  show (_ - _ : EReal) = _
  refine congrArg₂ (fun p q : EReal => p - q) ?_ (flat n)
  by_cases h : n.val < 4095
  · refine (join_left (C := 4096) (p := 4095) (q := 1) _ _ _ _ _ (⟨n.val, h⟩ : Fin 4095) rfl).trans
      ((cut_cols _ _ _ _ (nxt n) ?_).trans (flat _))
    show min (n.val + 1) 4095 = 1 + n.val
    omega
  · refine (join_right (C := 4096) (p := 4095) (q := 1) _ _ _ _ _ (0 : Fin 1) (by show 0 + 4095 = n.val; omega)).trans
      ((cut_cols _ _ _ _ (nxt n) ?_).trans (flat _))
    show min (n.val + 1) 4095 = 4095 + 0
    omega

/-- The kernel's rhythm is the rhythm. -/
theorem rhy_apply (c : Dev nD) (b : Fin 32) (n : Fin 4096) :
    (rhyOf (rowOf (hist m c)) (ix2 b n) : EReal) = rhyS (m ((c.tc : Thread nD τ).loc main_arg0)) b n := by
  unfold rhyOf
  refine (accTo_apply _ _ 16 (le_refl 16)).trans (Finset.sum_congr rfl fun w _ => ?_)
  show max (riseOf (rowOf (hist m c) w) (ix2 b n) : EReal) (Ideal.ofBits .f32 0x00000000#32) = _
  rw [riseOf_apply, Ideal.ofBits_zero_f32]
  unfold gainS
  rw [← hist_apply m c w b n, ← hist_apply m c w b (nxt n)]
  rfl

/-- The word of the number two. -/
theorem two_bits : Ideal.ofBits .f32 0x40000000#32 = ((2 : ℝ) : EReal) := by
  simp [Ideal.ofBits, Ideal.ieee, -EReal.coe_mul]; norm_num

/-- Half of a real number and its absolute value together is its positive part. -/
theorem half_abs (d : ℝ) : Ideal.div ((d : EReal) + max (d : EReal) (-(d : EReal))) ((2 : ℝ) : EReal) = max (d : EReal) 0 := by
  have h2 : ((2 : ℝ) : EReal) ≠ 0 := by exact_mod_cast (two_ne_zero : (2 : ℝ) ≠ 0)
  unfold Ideal.div
  rw [if_neg h2, ← EReal.coe_inv]
  rcases le_total 0 d with h | h
  · have h' : -(d : EReal) ≤ (d : EReal) := by exact_mod_cast (by linarith : -d ≤ d)
    rw [max_eq_left h', max_eq_left (EReal.coe_nonneg.mpr h), ← EReal.coe_add, ← EReal.coe_mul]
    congr 1; ring
  · have h' : (d : EReal) ≤ -(d : EReal) := by exact_mod_cast (by linarith : d ≤ -d)
    rw [max_eq_right h', max_eq_right (by exact_mod_cast h), ← EReal.coe_neg, ← EReal.coe_add, ← EReal.coe_mul, ← EReal.coe_zero]
    congr 1; ring

/-- Frame `s` of 4094 among the 4096. -/
abbrev low (s : Fin 4094) : Fin 4096 := ⟨s.val, Nat.lt_trans s.isLt (by decide)⟩

/-- The reference's rhythm is the rhythm. -/
theorem Finite.ref_rhythm (hx : Finite x) (b : Fin 32) (s : Fin 4094) : val_main_v25 (F := Ideal) x (ix2 b s) = rhyS x b (low s) := by
  rw [val_main_v25_apply]
  have hs := s.isLt
  refine (congrArg₂ (fun p q : EReal => p + q) Ideal.ofBits_zero_f32 (Finset.sum_congr rfl fun w _ => ?_)).trans (zero_add (rhyS x b (low s)))
  have e1 : idx_main_v18 (idx_main_v25 (ix2 b s) w) = ix3 b (⟨s.val + 1, by omega⟩ : Fin 4095) w := funext fun a => by
    match a with | ⟨0, _⟩ => rfl | ⟨1, _⟩ => exact Fin.ext (Nat.add_comm 1 s.val) | ⟨2, _⟩ => rfl
  have e2 : idx_main_v19 (idx_main_v25 (ix2 b s) w) = ix3 b (⟨s.val, by omega⟩ : Fin 4095) w := funext fun a => by
    match a with | ⟨0, _⟩ => rfl | ⟨1, _⟩ => rfl | ⟨2, _⟩ => rfl
  have e3 : nxt (low s) = up (⟨s.val + 1, by omega⟩ : Fin 4095) := Fin.ext (by show min (s.val + 1) 4095 = s.val + 1; omega)
  obtain ⟨p, -, hp⟩ := hx.total w b (nxt (low s))
  obtain ⟨q, -, hq⟩ := hx.total w b (low s)
  rw [val_main_v24_apply, val_main_v22_apply, val_main_v21_apply, val_main_v20_apply, val_main_v18_apply, val_main_v19_apply, e1, e2,
    ref_total, ref_total, ← e3, val_main_v23_apply]
  unfold gainS
  show Ideal.div ((totS x w b (nxt (low s)) - totS x w b (low s)) + max (totS x w b (nxt (low s)) - totS x w b (low s)) (-(totS x w b (nxt (low s)) - totS x w b (low s))))
    (Ideal.ofBits .f32 0x40000000#32) = _
  rw [hp, hq, two_bits, ← EReal.coe_sub, half_abs]

end Cert.Proof.Beat

end
-- ==== Proof.Envelope.lean ====
/- The envelope and its mean: what the two frames only the kernel has leave unchanged, and how each program comes to them. -/
module

public import proofs.«01_k».proof.Proof.Rhythm
public import proofs.«01_k».proof.Proof.Results
public import Idealize.ShloMosaic.Lib.KernelVsHost

@[expose] public section

set_option maxRecDepth 16384

noncomputable section

namespace Cert.Proof.Beat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open Cert.ReferenceIdeal.Read

variable {F : FTy → Type} [FloatOps F]

local notation "𝕄" => MT nD τ sig Unit (Elt F) ℕ (UR sig nD τ) ℕ

/-- The word of minus infinity. -/
theorem bot_bits : Ideal.ofBits .f32 0xFF800000#32 = ⊥ := by
  simp [Ideal.ofBits, Ideal.ieee, -EReal.coe_mul]

/-- The greatest rhythm of a row. -/
def topS (x : S32x4096x17x3.Idx → EReal) (b : Fin 32) : EReal := Finset.univ.sup (rhyS x b)

/-- The envelope of a frame: its rhythm over the row's greatest. -/
def envS (x : S32x4096x17x3.Idx → EReal) (b : Fin 32) (n : Fin 4096) : EReal := Ideal.div (rhyS x b n) (topS x b)

/-- The envelope's mean, over 4094 frames. -/
def avgS (x : S32x4096x17x3.Idx → EReal) (b : Fin 32) : EReal := Ideal.div (∑ s : Fin 4094, envS x b (low s)) (Ideal.ofBits .f32 0x457FE000#32)

variable {x : S32x4096x17x3.Idx → EReal}

/-- The greatest value of a family is the greatest of some of its members, if every member is at most one of those. -/
theorem sup_some {ι κ : Type} [Fintype ι] [Fintype κ] (e : ι → κ) (f : κ → EReal) (h : ∀ k, ∃ i, f k ≤ f (e i)) :
    (Finset.univ.sup fun i => f (e i)) = Finset.univ.sup f :=
  le_antisymm (Finset.sup_le fun i _ => Finset.le_sup (f := f) (Finset.mem_univ (e i)))
    (Finset.sup_le fun k _ => (h k).elim fun i hi => hi.trans (Finset.le_sup (f := fun i => f (e i)) (Finset.mem_univ i)))

/-- Folding the maximum from minus infinity gives the greatest value. -/
theorem fold_bot {ι : Type} [Fintype ι] (z : EReal) (f g : ι → EReal) (hz : z = ⊥) (hf : f = g) :
    (Finset.univ : Finset ι).fold max z f = Finset.univ.sup g := by
  subst hz hf
  rfl

/-- The greatest rhythm of the row is already the greatest of the first 4094 frames. -/
theorem Finite.top (hx : Finite x) (b : Fin 32) : (Finset.univ.sup fun s : Fin 4094 => rhyS x b (low s)) = topS x b := by
  refine sup_some low (rhyS x b) fun n => ?_
  by_cases h : n.val < 4094
  · exact ⟨⟨n.val, h⟩, le_refl _⟩
  · refine ⟨⟨0, by decide⟩, ?_⟩
    rw [hx.rhythm_end b n (Nat.le_of_not_lt h)]
    exact (hx.rhythm b _).nonneg

/-- A row without any rhythm has the envelope zero over zero throughout. -/
theorem Finite.env_still (hx : Finite x) (b : Fin 32) (h0 : topS x b = 0) (n : Fin 4096) : envS x b n = ⊥ := by
  have e : rhyS x b n = 0 := le_antisymm (h0 ▸ Finset.le_sup (f := rhyS x b) (Finset.mem_univ n)) (hx.rhythm b n).nonneg
  unfold envS Ideal.div
  rw [if_pos h0, e, if_neg (lt_irrefl _)]

/-- In any other row the last two frames have envelope zero. -/
theorem Finite.env_end (hx : Finite x) (b : Fin 32) (h0 : topS x b ≠ 0) (n : Fin 4096) (hn : 4094 ≤ n.val) : envS x b n = 0 := by
  unfold envS Ideal.div
  rw [if_neg h0, hx.rhythm_end b n hn, zero_mul]

/-- The envelope sums to the same over the 4096 frames as over the first 4094. -/
theorem Finite.env_sum (hx : Finite x) (b : Fin 32) : ∑ n : Fin 4096, envS x b n = ∑ s : Fin 4094, envS x b (low s) := by
  rw [Fin.sum_univ_castSucc (n := 4095), Fin.sum_univ_castSucc (n := 4094)]
  by_cases h0 : topS x b = 0
  · rw [hx.env_still b h0 (Fin.last 4095), EReal.add_bot, Fin.sum_univ_succ (n := 4093), hx.env_still b h0, EReal.bot_add]
  · rw [hx.env_end b h0 (Fin.last 4095) (by decide), hx.env_end b h0 (Fin.castSucc (Fin.last 4094)) (by decide), add_zero, add_zero]
    rfl

/-! ## The kernel's -/

variable (m : (ℓ : Loc nD τ sig) → Buf (Elt Ideal) ℓ)

/-- One number per row written as a column, read back. -/
theorem column_apply (v : FVec Ideal S32 .f32) (b : Fin 32) : (shapeCast S32x1 v shapeCasts_S32_S32x1 : FVec Ideal S32x1 .f32) (ix2 b 0) = v (ix1 b) := by
  refine shapeCast_apply _ _ _ (ix1 b) ?_
  rw [Shape.rowMajor_val_one, Shape.rowMajor_val_two]
  show b.val = b.val * 1 + 0
  omega

/-- The greatest value of each row of a plane. -/
theorem rowTop_apply (r : FVec Ideal S32x4096 .f32) (b : Fin 32) :
    (multiReduction .maximumf [1] S32 r 0xFF800000#32 reduces_S32x4096_S32 (.inl rfl) rfl : FVec Ideal S32 .f32) (ix1 b)
      = Finset.univ.sup fun n : Fin 4096 => (r (ix2 b n) : EReal) := by
  refine (Ideal.multiReduction_maximumf_single (a := (1 : Fin S32x4096.rank)) _ _ _ _ _ _).trans ?_
  have e : (r ∘ reduces_S32x4096_S32.lift (ix1 b) : Fin 4096 → EReal) = fun n => r (ix2 b n) := funext fun n => congrArg r (funext fun a => by
    match a with | ⟨0, _⟩ => rfl | ⟨1, _⟩ => rfl)
  exact fold_bot _ _ _ bot_bits e

/-- The sum of each row of a plane. -/
theorem rowSum_apply (r : FVec Ideal S32x4096 .f32) (b : Fin 32) :
    (multiReduction .add [1] S32 r 0x00000000#32 reduces_S32x4096_S32 (.inl rfl) rfl : FVec Ideal S32 .f32) (ix1 b)
      = ∑ n : Fin 4096, (r (ix2 b n) : EReal) := by
  refine (Ideal.multiReduction_add_single (a := (1 : Fin S32x4096.rank)) _ _ _ _ _ _).trans (Finset.sum_congr rfl fun n _ => congrArg r (funext fun a => ?_))
  match a with | ⟨0, _⟩ => rfl | ⟨1, _⟩ => rfl

/-- A plane's quotient by the greatest value of each row. -/
theorem envOf_apply (r : FVec Ideal S32x4096 .f32) (b : Fin 32) (n : Fin 4096) :
    (envOf r (ix2 b n) : EReal) = Ideal.div (r (ix2 b n)) (Finset.univ.sup fun n : Fin 4096 => (r (ix2 b n) : EReal)) := by
  unfold envOf
  generalize hq : (Finset.univ.sup fun n : Fin 4096 => (r (ix2 b n) : EReal)) = q
  show FloatOps.divf (r (ix2 b n)) (broadcastTo S32x4096 (shapeCast S32x1 (multiReduction .maximumf [1] S32 r 0xFF800000#32 reduces_S32x4096_S32 (.inl rfl) rfl) shapeCasts_S32_S32x1 : FVec Ideal S32x1 .f32)
    broadcasts_S32x1_S32x4096 (ix2 b n)) = _
  subst hq
  rw [Ideal.divf_def]
  refine congrArg (fun z : EReal => Ideal.div (r (ix2 b n)) z) ?_
  exact (spread_cols (R := 32) (C := 4096) _ _ b n).trans ((column_apply _ b).trans (rowTop_apply r b))

/-- A plane's mean over each row. -/
theorem meanOf_apply (e : FVec Ideal S32x4096 .f32) (b : Fin 32) :
    (meanOf e (ix2 b 0) : EReal) = Ideal.div (∑ n : Fin 4096, (e (ix2 b n) : EReal)) (Ideal.ofBits .f32 0x457FE000#32) := by
  unfold meanOf
  exact congrArg (fun z : EReal => Ideal.div z (Ideal.ofBits .f32 0x457FE000#32)) ((column_apply _ b).trans (rowSum_apply e b))

/-- The kernel's envelope is the envelope. -/
theorem env_apply (c : Dev nD) (b : Fin 32) (n : Fin 4096) :
    (envOut m c (ix2 b n) : EReal) = envS (m ((c.tc : Thread nD τ).loc main_arg0)) b n := by
  unfold envOut
  have e : (fun n => (rhyOf (rowOf (hist m c)) (ix2 b n) : EReal)) = rhyS (m ((c.tc : Thread nD τ).loc main_arg0)) b := funext fun n => rhy_apply m c b n
  generalize rhyOf (rowOf (hist m c)) = r at e
  refine (envOf_apply r b n).trans ?_
  unfold envS topS
  rw [e, ← congrFun e n]

/-- The kernel's mean is the mean. -/
theorem mean_apply (c : Dev nD) (hx : Finite (m ((c.tc : Thread nD τ).loc main_arg0))) (b : Fin 32) :
    (meanOf (envOut m c) (ix2 b 0) : EReal) = avgS (m ((c.tc : Thread nD τ).loc main_arg0)) b := by
  rw [meanOf_apply]
  unfold avgS
  rw [← hx.env_sum b]
  exact congrArg (fun z : EReal => Ideal.div z (Ideal.ofBits .f32 0x457FE000#32)) (Finset.sum_congr rfl fun n _ => env_apply m c b n)

/-! ## The reference's -/

/-- The reference's greatest rhythm of a row. -/
theorem Finite.ref_top (hx : Finite x) (b : Fin 32) : val_main_v26 (F := Ideal) x (ix1 b) = topS x b := by
  have hr : Cert.ReferenceIdeal.S32x4094.Reduces [1] Cert.ReferenceIdeal.S32 := by decide
  unfold val_main_v26
  rw [show val_main_cst_3 (F := Ideal) = constant (F := Ideal) Cert.ReferenceIdeal.S_ .f32 0xFF800000#32 from rfl,
    hostReduce_maximumf_eq_multiReduction _ 0xFF800000#32 _ _ hr (.inl rfl) rfl]
  refine (Ideal.multiReduction_maximumf_single (a := (1 : Fin Cert.ReferenceIdeal.S32x4094.rank)) _ _ _ _ _ _).trans ?_
  have e : (val_main_v25 (F := Ideal) x ∘ hr.lift (ix1 b) : Fin 4094 → EReal) = fun s => rhyS x b (low s) := funext fun s => by
    refine Eq.trans (congrArg (val_main_v25 (F := Ideal) x) (funext fun a => ?_)) (hx.ref_rhythm b s)
    match a with | ⟨0, _⟩ => rfl | ⟨1, _⟩ => rfl
  exact (fold_bot _ _ _ bot_bits e).trans (hx.top b)

/-- The reference's envelope is the envelope. -/
theorem Finite.ref_env (hx : Finite x) (b : Fin 32) (s : Fin 4094) : val_main_v29 (F := Ideal) x (ix2 b s) = envS x b (low s) := by
  rw [val_main_v29_apply, val_main_v28_apply, val_main_v27_apply, hx.ref_rhythm b s]
  have e : idx_main_v27 (idx_main_v28 (ix2 b s)) = ix1 b := funext fun a => by
    match a with | ⟨0, _⟩ => rfl
  rw [e, hx.ref_top b]
  rfl

/-- The reference's mean is the mean. -/
theorem Finite.ref_mean (hx : Finite x) (b : Fin 32) : val_main_v89 (F := Ideal) x (ix2 b 0) = avgS x b := by
  rw [val_main_v89_apply, val_main_v87_apply, val_main_v88_apply, val_main_v86_apply]
  refine congrArg (fun z : EReal => Ideal.div z (Ideal.ofBits .f32 0x457FE000#32)) ?_
  refine (congrArg₂ (fun p q : EReal => p + q) Ideal.ofBits_zero_f32 (Finset.sum_congr rfl fun s _ => ?_)).trans (zero_add _)
  refine Eq.trans (congrArg (val_main_v29 (F := Ideal) x) (funext fun a => ?_)) (hx.ref_env b s)
  match a with | ⟨0, _⟩ => rfl | ⟨1, _⟩ => rfl

end Cert.Proof.Beat

end
-- ==== Proof.Windows.lean ====
/- The windows, candidates and peaks of a row: the kernel's doubled windows are the plain sums and maxima. -/
module

public import proofs.«01_k».proof.Proof.Envelope

@[expose] public section

set_option maxRecDepth 16384

noncomputable section

namespace Cert.Proof.Beat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open Cert.ReferenceIdeal.Read

variable {F : FTy → Type} [FloatOps F]

local notation "𝕄" => MT nD τ sig Unit (Elt F) ℕ (UR sig nD τ) ℕ

/-! ## What both programs find -/

/-- The sum of the `N` values from `n` on. -/
def sumS (g : ℕ → EReal) (N n : ℕ) : EReal := ∑ k : Fin N, g (n + k.val)

/-- The greatest of the `N` values from `n` on. -/
def supS (g : ℕ → EReal) (N n : ℕ) : EReal := Finset.univ.sup fun k : Fin N => g (n + k.val)

/-- The local mean, zero where the window does not fit. -/
def lmS (g : ℕ → EReal) (n : ℕ) : EReal := if n ≤ 4078 then Ideal.div (sumS g 16 n) (Ideal.ofBits .f32 0x41800000#32) else 0

/-- The local maximum, zero where the window does not fit. -/
def lxS (g : ℕ → EReal) (n : ℕ) : EReal := if n ≤ 4086 then supS g 8 n else 0

/-- Whether a frame is a candidate, `a` being the mean. -/
def candS (g : ℕ → EReal) (a : EReal) (n : ℕ) : BitVec 32 :=
  (IntOp.andi (Ideal.cmp .ogt (lxS g n - lmS g n) (Ideal.ofBits .f32 0x3DCCCCCD#32 * a)) (Ideal.cmp .oeq (lxS g n) (g n))).setWidth 32

/-- Whether a frame is a peak: a candidate before frame 4093 whose next frame is not one. -/
def peakS (g : ℕ → EReal) (a : EReal) (n : ℕ) : BitVec 32 :=
  IntOp.muli (candS g a n) (BitVec.setWidth 32 (if n < 4093 then IntOp.cmpi .ne (IntOp.subi (candS g a (n + 1)) (candS g a n)) 0#32 else 0#1))

/-- A window's sum is the sums of its halves, -/
theorem sumS_double (g : ℕ → EReal) (N n : ℕ) : sumS g (N + N) n = sumS g N n + sumS g N (n + N) := by
  unfold sumS
  rw [Fin.sum_univ_add]
  refine congrArg₂ (fun p q : EReal => p + q) rfl (Finset.sum_congr rfl fun k _ => congrArg g ?_)
  show n + (N + k.val) = n + N + k.val
  omega

/-- and its maximum the greater of theirs. -/
theorem supS_double (g : ℕ → EReal) (N n : ℕ) : supS g (N + N) n = max (supS g N n) (supS g N (n + N)) := by
  unfold supS
  refine le_antisymm (Finset.sup_le fun k _ => ?_) (max_le (Finset.sup_le fun k _ => ?_) (Finset.sup_le fun k _ => ?_))
  · by_cases h : k.val < N
    · exact le_max_of_le_left (Finset.le_sup (f := fun k : Fin N => g (n + k.val)) (Finset.mem_univ ⟨k.val, h⟩))
    · refine le_max_of_le_right (le_of_eq_of_le (congrArg g ?_) (Finset.le_sup (f := fun k : Fin N => g (n + N + k.val)) (Finset.mem_univ ⟨k.val - N, by omega⟩)))
      show n + k.val = n + N + (k.val - N)
      omega
  · exact Finset.le_sup (f := fun k : Fin (N + N) => g (n + k.val)) (Finset.mem_univ ⟨k.val, by omega⟩)
  · refine le_of_eq_of_le (congrArg g ?_) (Finset.le_sup (f := fun k : Fin (N + N) => g (n + k.val)) (Finset.mem_univ ⟨N + k.val, by omega⟩))
    show n + N + k.val = n + (N + k.val)
    omega

/-- A window of one value. -/
theorem sumS_one (g : ℕ → EReal) (n : ℕ) : sumS g 1 n = g n := by
  unfold sumS
  rw [Fin.sum_univ_one]
  rfl
@[inherit_doc sumS_one] theorem supS_one (g : ℕ → EReal) (n : ℕ) : supS g 1 n = g n := by
  unfold supS
  rw [Finset.univ_unique, Finset.sup_singleton]
  rfl

/-! ## The kernel's planes as sequences -/

/-- A row of a plane is the sequence `g` of numbers, which is zero from the plane's end on. -/
def Follows {α : Type} (z : α) (p : S32x4096.Idx → α) (b : Fin 32) (g : ℕ → α) : Prop :=
  (∀ n : Fin 4096, p (ix2 b n) = g n.val) ∧ ∀ k, 4096 ≤ k → g k = z

/-- A plane moved to the left, zeros coming in, is the sequence moved. -/
theorem Follows.left {α : Type} {z : α} {p : S32x4096.Idx → α} {b : Fin 32} {g : ℕ → α} (h : Follows z p b g) {o q : ℕ} (hq : q + o = 4096)
    (hs : S32x4096.Slices ![0, o] ⟨2, ![32, q]⟩) (hc : Shape.Concatenates [⟨2, ![32, q]⟩, ⟨2, ![32, o]⟩] S32x4096 1) :
    Follows z (concatenate S32x4096 1 [⟨⟨2, ![32, q]⟩, extractStridedSlice ⟨2, ![32, q]⟩ ![0, o] p hs⟩, ⟨⟨2, ![32, o]⟩, fun _ => z⟩] hc) b fun n => g (n + o) := by
  refine ⟨fun n => ?_, fun k hk => h.2 _ (by omega)⟩
  have hn := n.isLt
  by_cases hl : n.val < q
  · refine (join_left (C := 4096) (p := q) (q := o) _ _ _ _ _ (⟨n.val, hl⟩ : Fin q) rfl).trans
      ((cut_cols (C := 4096) (p := q) p hs b (⟨n.val, hl⟩ : Fin q) (⟨n.val + o, by omega⟩ : Fin 4096) (Nat.add_comm _ _)).trans (h.1 _))
  · exact (join_right (C := 4096) (p := q) (q := o) _ _ _ _ _ (⟨n.val - q, by omega⟩ : Fin o) (by show n.val - q + q = n.val; omega)).trans
      (h.2 _ (by omega)).symm

variable {e : FVec Ideal S32x4096 .f32} {b : Fin 32} {g : ℕ → EReal}

/-- A plane of zeros. -/
theorem zeros_eq (s : Shape) : (broadcast s (zeroF : Ideal .f32) : FVec Ideal s .f32) = fun _ => (0 : EReal) := funext fun _ => Ideal.ofBits_zero_f32

/-- Two planes added, or the greater taken, are the sequences so joined. -/
theorem Follows.add {p q : FVec Ideal S32x4096 .f32} {f h : ℕ → EReal} (hp : Follows (0 : EReal) p b f) (hq : Follows (0 : EReal) q b h) :
    Follows (0 : EReal) (addf p q) b fun n => f n + h n :=
  ⟨fun n => congrArg₂ (fun u v : EReal => u + v) (hp.1 n) (hq.1 n), fun k hk => by show f k + h k = 0; rw [hp.2 k hk, hq.2 k hk, add_zero]⟩
@[inherit_doc Follows.add] theorem Follows.max {p q : FVec Ideal S32x4096 .f32} {f h : ℕ → EReal} (hp : Follows (0 : EReal) p b f) (hq : Follows (0 : EReal) q b h) :
    Follows (0 : EReal) (maximumf p q) b fun n => Max.max (f n) (h n) :=
  ⟨fun n => congrArg₂ (fun u v : EReal => Max.max u v) (hp.1 n) (hq.1 n), fun k hk => by show Max.max (f k) (h k) = 0; rw [hp.2 k hk, hq.2 k hk, max_self]⟩

/-- One, two, four and eight frames to the left. -/
theorem Follows.by1 (h : Follows (0 : EReal) e b g) : Follows (0 : EReal) (left1 e) b fun n => g (n + 1) := by
  unfold left1
  rw [zeros_eq]
  exact h.left (o := 1) (q := 4095) rfl _ _
@[inherit_doc Follows.by1] theorem Follows.by2 (h : Follows (0 : EReal) e b g) : Follows (0 : EReal) (left2 e) b fun n => g (n + 2) := by
  unfold left2
  rw [zeros_eq]
  exact h.left (o := 2) (q := 4094) rfl _ _
@[inherit_doc Follows.by1] theorem Follows.by4 (h : Follows (0 : EReal) e b g) : Follows (0 : EReal) (left4 e) b fun n => g (n + 4) := by
  unfold left4
  rw [zeros_eq]
  exact h.left (o := 4) (q := 4092) rfl _ _
@[inherit_doc Follows.by1] theorem Follows.by8 (h : Follows (0 : EReal) e b g) : Follows (0 : EReal) (left8 e) b fun n => g (n + 8) := by
  unfold left8
  rw [zeros_eq]
  exact h.left (o := 8) (q := 4088) rfl _ _

/-- A window's sums and the same moved by the window's width give the sums over twice the width, and so with the maxima. -/
theorem Follows.sum_double {p q : FVec Ideal S32x4096 .f32} {N : ℕ} (hp : Follows (0 : EReal) p b (sumS g N)) (hq : Follows (0 : EReal) q b fun n => sumS g N (n + N)) :
    Follows (0 : EReal) (addf p q) b (sumS g (N + N)) :=
  (funext fun n => sumS_double g N n : sumS g (N + N) = fun n => sumS g N n + sumS g N (n + N)) ▸ hp.add hq
@[inherit_doc Follows.sum_double] theorem Follows.max_double {p q : FVec Ideal S32x4096 .f32} {N : ℕ} (hp : Follows (0 : EReal) p b (supS g N)) (hq : Follows (0 : EReal) q b fun n => supS g N (n + N)) :
    Follows (0 : EReal) (maximumf p q) b (supS g (N + N)) :=
  (funext fun n => supS_double g N n : supS g (N + N) = fun n => Max.max (supS g N n) (supS g N (n + N))) ▸ hp.max hq

/-- The doubled windows are the windows. -/
theorem Follows.sum16 (h : Follows (0 : EReal) e b g) : Follows (0 : EReal) (win16 e) b (sumS g 16) := by
  have w1 : Follows (0 : EReal) e b (sumS g 1) := (funext fun n => sumS_one g n : sumS g 1 = g).symm ▸ h
  have w2 : Follows (0 : EReal) (win2 e) b (sumS g 2) := w1.sum_double w1.by1
  have w4 : Follows (0 : EReal) (win4 e) b (sumS g 4) := w2.sum_double w2.by2
  have w8 : Follows (0 : EReal) (win8 e) b (sumS g 8) := w4.sum_double w4.by4
  exact w8.sum_double w8.by8
@[inherit_doc Follows.sum16] theorem Follows.max8 (h : Follows (0 : EReal) e b g) : Follows (0 : EReal) (top8 e) b (supS g 8) := by
  have w1 : Follows (0 : EReal) e b (supS g 1) := (funext fun n => supS_one g n : supS g 1 = g).symm ▸ h
  have w2 : Follows (0 : EReal) (top2 e) b (supS g 2) := w1.max_double w1.by1
  have w4 : Follows (0 : EReal) (top4 e) b (supS g 4) := w2.max_double w2.by2
  exact w4.max_double w4.by4

/-! ## The kernel's peaks -/

/-- Small numbers compare as words the way they do as numbers. -/
theorem small_toInt (n : ℕ) (hn : n < 4096) : (BitVec.ofNat 32 n).toInt = (n : ℤ) := by
  have e : (BitVec.ofNat 32 n).toNat = n := by rw [BitVec.toNat_ofNat]; omega
  rw [BitVec.toInt_eq_toNat_of_lt (by omega), e]
@[inherit_doc small_toInt] theorem sle_small (n k : ℕ) (hn : n < 4096) (hk : k < 4096) :
    IntOp.cmpi .sle (BitVec.ofNat 32 n) (BitVec.ofNat 32 k) = BitVec.ofBool (decide (n ≤ k)) := by
  show BitVec.ofBool ((BitVec.ofNat 32 n).sle (BitVec.ofNat 32 k)) = _
  rw [BitVec.sle_eq_decide, small_toInt n hn, small_toInt k hk]
  simp
@[inherit_doc small_toInt] theorem slt_small (n k : ℕ) (hn : n < 4096) (hk : k < 4096) :
    IntOp.cmpi .slt (BitVec.ofNat 32 n) (BitVec.ofNat 32 k) = BitVec.ofBool (decide (n < k)) := by
  show BitVec.ofBool ((BitVec.ofNat 32 n).slt (BitVec.ofNat 32 k)) = _
  rw [BitVec.slt_eq_decide, small_toInt n hn, small_toInt k hk]
  simp

/-- A choice by a decided condition. -/
theorem select_decide {α : Type} (c : Prop) [Decidable c] (p q : α) : Scalar.select (BitVec.ofBool (decide c)) p q = if c then p else q := by
  by_cases h : c
  · simp [Scalar.select, h]
  · simp [Scalar.select, h]

/-- A frame's number, read at an index. -/
theorem frameNo_apply (b : Fin 32) (n : Fin 4096) : frameNo (ix2 b n) = BitVec.ofNat 32 n.val := iota_single_apply _ _ _ _ _ _

/-- The kernel's local mean. -/
theorem Follows.lm (h : Follows (0 : EReal) e b g) (n : Fin 4096) : (lmOf e (ix2 b n) : EReal) = lmS g n.val := by
  unfold lmOf
  show Scalar.select (IntOp.cmpi .sle (frameNo (ix2 b n)) 4078#32) (FloatOps.divf (win16 e (ix2 b n)) (FloatOps.ofBits .f32 0x41800000#32)) (FloatOps.ofBits .f32 0x00000000#32 : Ideal .f32) = _
  rw [frameNo_apply, sle_small n.val 4078 n.isLt (by decide), select_decide, h.sum16.1 n, Ideal.divf_def]
  unfold lmS
  split
  · rfl
  · exact Ideal.ofBits_zero_f32

/-- The kernel's local maximum. -/
theorem Follows.lx (h : Follows (0 : EReal) e b g) (n : Fin 4096) : (lxOf e (ix2 b n) : EReal) = lxS g n.val := by
  unfold lxOf
  show Scalar.select (IntOp.cmpi .sle (frameNo (ix2 b n)) 4086#32) (top8 e (ix2 b n)) (FloatOps.ofBits .f32 0x00000000#32 : Ideal .f32) = _
  rw [frameNo_apply, sle_small n.val 4086 n.isLt (by decide), select_decide, h.max8.1 n]
  unfold lxS
  split
  · rfl
  · exact Ideal.ofBits_zero_f32

/-- The kernel's candidates. -/
theorem Follows.cand (h : Follows (0 : EReal) e b g) (n : Fin 4096) : candOf e (ix2 b n) = candS g (meanOf e (ix2 b 0)) n.val := by
  unfold candOf candS
  generalize ha : (meanOf e : FVec Ideal S32x1 .f32) = a
  show (IntOp.andi (FloatOps.cmpf .ogt (FloatOps.subf (lxOf e (ix2 b n)) (lmOf e (ix2 b n)))
      (broadcastTo S32x4096 (mulf (broadcast S32x1 (Scalar.ofBits .f32 0x3DCCCCCD#32 : Ideal .f32)) a) broadcasts_S32x1_S32x4096 (ix2 b n)))
    (FloatOps.cmpf .oeq (lxOf e (ix2 b n)) (e (ix2 b n)))).setWidth 32 = _
  rw [h.lx n, h.lm n, h.1 n, spread_cols (R := 32) (C := 4096)]
  rfl

/-- The kernel's peaks, before the last two frames. -/
theorem Follows.peak (h : Follows (0 : EReal) e b g) (n : Fin 4096) (hn : n.val < 4094) : peakOf e (ix2 b n) = peakS g (meanOf e (ix2 b 0)) n.val := by
  have key : ∀ (q : IVec S32x4096 32) (_ : ∀ n : Fin 4096, q (ix2 b n) = candS g (meanOf e (ix2 b 0)) n.val),
      IntOp.muli (q (ix2 b n)) (BitVec.setWidth 32 (IntOp.andi (IntOp.cmpi .ne (IntOp.subi
        (concatenate S32x4096 1 [⟨S32x4095, extractStridedSlice S32x4095 ![0, 1] q slices_S32x4096_o0_1_S32x4095⟩, ⟨S32x1, (broadcast S32x1 0#32 : IVec S32x1 32)⟩] concatenates_S32x4095_S32x1_S32x4096_d1 (ix2 b n))
        (q (ix2 b n))) 0#32) (IntOp.cmpi .slt (frameNo (ix2 b n)) 4093#32))) = peakS g (meanOf e (ix2 b 0)) n.val := fun q hq => by
    rw [frameNo_apply, slt_small n.val 4093 n.isLt (by decide),
      join_left (C := 4096) (p := 4095) (q := 1) _ _ _ b n (⟨n.val, by omega⟩ : Fin 4095) rfl,
      cut_cols (R := 32) (C := 4096) (p := 4095) (o := 1) q slices_S32x4096_o0_1_S32x4095 b (⟨n.val, by omega⟩ : Fin 4095) (⟨n.val + 1, by omega⟩ : Fin 4096) (Nat.add_comm _ _), hq, hq]
    unfold peakS
    refine congrArg (fun w : BitVec 1 => IntOp.muli (candS g (meanOf e (ix2 b 0)) n.val) (BitVec.setWidth 32 w)) ?_
    by_cases hl : n.val < 4093
    · rw [if_pos hl, decide_eq_true hl]
      exact BitVec.and_allOnes
    · rw [if_neg hl, decide_eq_false hl]
      exact BitVec.and_zero
  exact key (candOf e) h.cand

end Cert.Proof.Beat

end
-- ==== Proof.Peaks.lean ====
/- The reference's windows, candidates and peaks, and the two programs' results compared. -/
module

public import proofs.«01_k».proof.Proof.Windows
public import Idealize.ShloMosaic.Lib.KernelVsHost
public import proofs.«01_k».proof.Pre_finite

@[expose] public section

set_option maxRecDepth 16384

noncomputable section

namespace Cert.Proof.Beat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open Cert.ReferenceIdeal.Read

variable {F : FTy → Type} [FloatOps F]

local notation "𝕄" => MT nD τ sig Unit (Elt F) ℕ (UR sig nD τ) ℕ

/-- A row's envelope as a sequence, zero from the end on. -/
def seqS (x : S32x4096x17x3.Idx → EReal) (b : Fin 32) (n : ℕ) : EReal := if h : n < 4096 then envS x b ⟨n, h⟩ else 0

variable {x : S32x4096x17x3.Idx → EReal}

/-! ## The reference's windows -/

/-- The slices of a plane from columns 0, 1, … on, stacked along a last axis: the element at `(b, t, k)` is the plane's at `(b, t + k)`. -/
theorem stacked {α : Type} {T N : ℕ} (hT : T + N ≤ 4095) (hT1 : T ≠ 1) (y : (⟨2, ![32, 4094]⟩ : Shape).Idx → α)
    (hs : ∀ k : Fin N, (⟨2, ![32, 4094]⟩ : Shape).Slices ![0, k.val] ⟨2, ![32, T]⟩)
    (hb : (⟨2, ![32, T]⟩ : Shape).BroadcastsInDim ⟨3, ![32, T, 1]⟩ (![0, 1] : Fin 2 → Fin 3))
    (hc : Shape.Concatenates ((List.ofFn fun k : Fin N => (⟨⟨3, ![32, T, 1]⟩, broadcastInDim ⟨3, ![32, T, 1]⟩ ![0, 1] hb
      (extractStridedSlice ⟨2, ![32, T]⟩ ![0, k.val] y (hs k))⟩ : (s : Shape) × (s.Idx → α))).map (·.1)) ⟨3, ![32, T, N]⟩ 2)
    (b : Fin 32) (t : Fin T) (k : Fin N) :
    concatenate ⟨3, ![32, T, N]⟩ 2 (List.ofFn fun k : Fin N => (⟨⟨3, ![32, T, 1]⟩, broadcastInDim ⟨3, ![32, T, 1]⟩ ![0, 1] hb
      (extractStridedSlice ⟨2, ![32, T]⟩ ![0, k.val] y (hs k))⟩ : (s : Shape) × (s.Idx → α))) hc (ix3 b t k)
      = y (ix2 b (⟨t.val + k.val, by omega⟩ : Fin 4094)) := by
  refine (concatenate_ofFn_unit_apply (t := ⟨3, ![32, T, N]⟩) (s₁ := ⟨3, ![32, T, 1]⟩) 2 _ hc rfl rfl (ix3 b t k) k rfl (ix3 b t 0) (fun a ha => ?_)).trans
    ((broadcastInDim_apply _ hb _ _ (ix2 b t) (fun a => ?_)).trans (cut_cols _ _ _ _ _ (Nat.add_comm _ _)))
  · match a with
    | ⟨0, _⟩ => rfl
    | ⟨1, _⟩ => rfl
    | ⟨2, _⟩ => exact absurd rfl ha
  · match a with
    | ⟨0, _⟩ => show b.val = if (32 : ℕ) = 1 then 0 else b.val; rw [if_neg (by decide)]
    | ⟨1, _⟩ => show t.val = if T = 1 then 0 else t.val; rw [if_neg hT1]

/-- The reference's envelope at a frame of a window. -/
theorem Finite.ref_at (hx : Finite x) (b : Fin 32) (n : ℕ) (hn : n < 4094) : val_main_v29 (F := Ideal) x (ix2 b (⟨n, hn⟩ : Fin 4094)) = seqS x b n := by
  rw [hx.ref_env b ⟨n, hn⟩]
  unfold seqS
  rw [dif_pos (Nat.lt_trans hn (by decide))]

/-- The sixteen shifted envelopes stacked. -/
theorem Finite.ref_stack16 (hx : Finite x) (b : Fin 32) (t : Fin 4079) (k : Fin 16) :
    val_main_v62 (F := Ideal) x (ix3 b t k) = seqS x b (t.val + k.val) :=
  (stacked (T := 4079) (N := 16) (by decide) (by decide) (val_main_v29 (F := Ideal) x)
    (fun k => ⟨rfl, fun a => match a with | ⟨0, _⟩ => by show 0 + 32 ≤ 32; omega | ⟨1, _⟩ => by show k.val + 4079 ≤ 4094; omega⟩)
    Cert.ReferenceIdeal.Gen.bcast_S32x4079_S32x4079x1_0_1
    Cert.ReferenceIdeal.Gen.concatenates_S32x4079x1_S32x4079x1_S32x4079x1_S32x4079x1_S32x4079x1_S32x4079x1_S32x4079x1_S32x4079x1_S32x4079x1_S32x4079x1_S32x4079x1_S32x4079x1_S32x4079x1_S32x4079x1_S32x4079x1_S32x4079x1_S32x4079x16_d2 b t k).trans (hx.ref_at b _ _)

/-- The eight shifted envelopes stacked. -/
theorem Finite.ref_stack8 (hx : Finite x) (b : Fin 32) (t : Fin 4087) (k : Fin 8) :
    val_main_v83 (F := Ideal) x (ix3 b t k) = seqS x b (t.val + k.val) :=
  (stacked (T := 4087) (N := 8) (by decide) (by decide) (val_main_v29 (F := Ideal) x)
    (fun k => ⟨rfl, fun a => match a with | ⟨0, _⟩ => by show 0 + 32 ≤ 32; omega | ⟨1, _⟩ => by show k.val + 4087 ≤ 4094; omega⟩)
    Cert.ReferenceIdeal.Gen.bcast_S32x4087_S32x4087x1_0_1
    Cert.ReferenceIdeal.Gen.concatenates_S32x4087x1_S32x4087x1_S32x4087x1_S32x4087x1_S32x4087x1_S32x4087x1_S32x4087x1_S32x4087x1_S32x4087x8_d2 b t k).trans (hx.ref_at b _ _)

/-- A row lengthened to 4094 columns, read at an index: its own value, or past its end the filling one. -/
theorem padded {α : Type} {T q : ℕ} (y : (⟨2, ![32, T]⟩ : Shape).Idx → α) (v : Cert.ReferenceIdeal.S_.Idx → α)
    (h : (⟨2, ![32, T]⟩ : Shape).Pads ![0, 0] ![0, q] ![0, 0] ⟨2, ![32, 4094]⟩) (hu : 0 < Cert.ReferenceIdeal.S_.numel) (b : Fin 32) (n : Fin 4094) (z : α)
    (hz : v (Shape.Idx.first hu) = z) :
    pad ⟨2, ![32, 4094]⟩ ![0, 0] ![0, q] ![0, 0] y v h hu (ix2 b n) = if hn : n.val < T then y (ix2 b ⟨n.val, hn⟩) else z := by
  by_cases hn : n.val < T
  · rw [dif_pos hn]
    refine pad_apply_of_inside _ _ _ _ _ _ _ _ _ fun a => ?_
    match a with
    | ⟨0, _⟩ => show b.val = 0 + b.val * (0 + 1); omega
    | ⟨1, _⟩ => show n.val = 0 + n.val * (0 + 1); omega
  · rw [dif_neg hn, ← hz]
    refine pad_apply_of_not_inside _ _ _ _ _ _ _ _ (⟨1, by decide⟩ : Fin 2) fun hin => hn ?_
    have : (n.val - 0) / (0 + 1) < T := hin.2.2
    omega

/-- The whole number zero as a float. -/
theorem float_zero : (FloatOps.sitofp .f32 (0#32 : BitVec 32) : Ideal .f32) = (0 : EReal) := by
  show (((0#32 : BitVec 32).toInt : ℝ) : EReal) = 0
  simp

/-- The reference's local mean. -/
theorem Finite.ref_lm (hx : Finite x) (b : Fin 32) (s : Fin 4094) : val_main_v66 (F := Ideal) x (ix2 b s) = lmS (seqS x b) s.val := by
  unfold val_main_v66
  refine (padded (T := 4079) _ _ _ _ b s (0 : EReal) float_zero).trans ?_
  unfold lmS
  by_cases h : s.val < 4079
  · rw [dif_pos h, if_pos (Nat.le_of_lt_succ h), val_main_v65_apply, val_main_v63_apply, val_main_v64_apply]
    refine congrArg (fun z : EReal => Ideal.div z (Ideal.ofBits .f32 0x41800000#32)) ?_
    refine (congrArg₂ (fun p q : EReal => p + q) Ideal.ofBits_zero_f32 (Finset.sum_congr rfl fun k _ => ?_)).trans (zero_add _)
    refine Eq.trans (congrArg (val_main_v62 (F := Ideal) x) (funext fun a => ?_)) (hx.ref_stack16 b ⟨s.val, h⟩ k)
    match a with | ⟨0, _⟩ => rfl | ⟨1, _⟩ => rfl | ⟨2, _⟩ => rfl
  · rw [dif_neg h, if_neg (by omega)]

/-- The reference's local maximum. -/
theorem Finite.ref_lx (hx : Finite x) (b : Fin 32) (s : Fin 4094) : val_main_v85 (F := Ideal) x (ix2 b s) = lxS (seqS x b) s.val := by
  unfold val_main_v85
  refine (padded (T := 4087) _ _ _ _ b s (0 : EReal) float_zero).trans ?_
  unfold lxS
  by_cases h : s.val < 4087
  · rw [dif_pos h, if_pos (Nat.le_of_lt_succ h)]
    have hr : Cert.ReferenceIdeal.S32x4087x8.Reduces [2] Cert.ReferenceIdeal.S32x4087 := by decide
    unfold val_main_v84
    rw [show val_main_cst_7 (F := Ideal) = constant (F := Ideal) Cert.ReferenceIdeal.S_ .f32 0xFF800000#32 from rfl,
      hostReduce_maximumf_eq_multiReduction _ 0xFF800000#32 _ _ hr (.inl rfl) rfl]
    refine (Ideal.multiReduction_maximumf_single (a := (2 : Fin Cert.ReferenceIdeal.S32x4087x8.rank)) _ _ _ _ _ _).trans ?_
    have e : (val_main_v83 (F := Ideal) x ∘ hr.lift (ix2 b (⟨s.val, h⟩ : Fin 4087)) : Fin 8 → EReal) = fun k => seqS x b (s.val + k.val) := funext fun k => by
      refine Eq.trans (congrArg (val_main_v83 (F := Ideal) x) (funext fun a => ?_)) (hx.ref_stack8 b ⟨s.val, h⟩ k)
      match a with | ⟨0, _⟩ => rfl | ⟨1, _⟩ => rfl | ⟨2, _⟩ => rfl
    exact fold_bot _ _ _ bot_bits e
  · rw [dif_neg h, if_neg (by omega)]

/-- The reference's candidates. -/
theorem Finite.ref_cand (hx : Finite x) (b : Fin 32) (n : ℕ) (hn : n < 4094) :
    val_main_v100 (F := Ideal) x (ix2 b (⟨n, hn⟩ : Fin 4094)) = candS (seqS x b) (avgS x b) n := by
  have e : idx_main_v91 (ix2 b (⟨n, hn⟩ : Fin 4094)) = ix2 b 0 := funext fun a => by
    match a with | ⟨0, _⟩ => rfl | ⟨1, _⟩ => rfl
  rw [val_main_v100_apply, val_main_v99_apply, val_main_v97_apply, val_main_v98_apply, val_main_v94_apply, val_main_v96_apply, val_main_v95_apply,
    val_main_v93_apply, val_main_v91_apply, val_main_v92_apply, e, hx.ref_lm b ⟨n, hn⟩, hx.ref_lx b ⟨n, hn⟩, hx.ref_at b n hn, hx.ref_mean b]
  unfold candS
  have one : (FloatOps.mulf (avgS x b : Ideal .f32) (FloatOps.ofBits .f32 0x3F800000#32) : Ideal .f32) = avgS x b := by
    show avgS x b * Ideal.ofBits .f32 0x3F800000#32 = _
    rw [show Ideal.ofBits .f32 0x3F800000#32 = 1 by simp [Ideal.ofBits, Ideal.ieee, -EReal.coe_mul]; norm_num, mul_one]
  rw [show (val_main_v90 (F := Ideal) (idx_main_v92 (ix2 b (⟨n, hn⟩ : Fin 4094)))) = (FloatOps.ofBits .f32 0x3F800000#32 : Ideal .f32) from rfl, one]
  rfl

/-- The reference's peaks. -/
theorem Finite.ref_peak (hx : Finite x) (b : Fin 32) (s : Fin 4094) :
    val_main_v108 (F := Ideal) x (ix2 b s) = peakS (seqS x b) (avgS x b) s.val := by
  have hs := s.isLt
  rw [val_main_v108_apply, val_main_v107_apply, val_main_v106_apply, hx.ref_cand b s.val s.isLt, val_main_v105_apply]
  unfold peakS val_main_v104
  refine congrArg (fun w : BitVec 1 => IntOp.muli (candS (seqS x b) (avgS x b) s.val) (BitVec.setWidth 32 w)) ?_
  rw [padded (T := 4093) _ _ _ _ b s (0#32 : BitVec 32) rfl]
  by_cases h : s.val < 4093
  · rw [dif_pos h, if_pos h, val_main_v103_apply, val_main_v101_apply, val_main_v102_apply, ← hx.ref_cand b s.val s.isLt, ← hx.ref_cand b (s.val + 1) (by omega)]
    refine congrArg (fun w => IntOp.cmpi .ne w 0#32) (congrArg₂ IntOp.subi (congrArg _ (funext fun a => ?_)) (congrArg _ (funext fun a => ?_)))
    · match a with | ⟨0, _⟩ => rfl | ⟨1, _⟩ => exact Fin.ext (Nat.add_comm 1 s.val)
    · match a with | ⟨0, _⟩ => rfl | ⟨1, _⟩ => rfl
  · rw [dif_neg h, if_neg h]
    rfl

/-! ## The results -/

variable (m : (ℓ : Loc nD τ sig) → Buf (Elt Ideal) ℓ)

/-- The kernel's envelope follows the row's sequence. -/
theorem env_follows (c : Dev nD) (b : Fin 32) : Follows (0 : EReal) (envOut m c) b (seqS (m ((c.tc : Thread nD τ).loc main_arg0)) b) := by
  refine ⟨fun n => (env_apply m c b n).trans ?_, fun k hk => ?_⟩
  · unfold seqS
    rw [dif_pos n.isLt]
  · unfold seqS
    rw [dif_neg (Nat.not_lt.mpr hk)]

/-- The two programs' peaks agree. -/
theorem peak_eq (c : Dev nD) (hx : Finite (m ((c.tc : Thread nD τ).loc main_arg0))) :
    peakRes m c = val_main_v108 (F := Ideal) (m ((c.tc : Thread nD τ).loc main_arg0)) := by
  funext i
  obtain ⟨b, s, rfl⟩ : ∃ (b : Fin 32) (s : Fin 4094), i = ix2 b s := ⟨i 0, i 1, eq_ix2 i⟩
  rw [hx.ref_peak b s]
  unfold peakRes
  refine (cut_cols (R := 32) (C := 4096) (p := 4094) (o := 0) _ _ b s (low s) (Nat.zero_add _).symm).trans ?_
  unfold peakOut
  rw [(env_follows m c b).peak (low s) s.isLt, mean_apply m c hx]

/-- The two programs' envelopes agree. -/
theorem env_eq (c : Dev nD) (hx : Finite (m ((c.tc : Thread nD τ).loc main_arg0))) :
    envRes m c = val_main_v109 (F := Ideal) (m ((c.tc : Thread nD τ).loc main_arg0)) := by
  have e : extractStridedSlice S32x4094 ![0, 0] (envOut m c) slices_S32x4096_S32x4094_0_0 = val_main_v29 (F := Ideal) (m ((c.tc : Thread nD τ).loc main_arg0)) := by
    funext i
    obtain ⟨b, s, rfl⟩ : ∃ (b : Fin 32) (s : Fin 4094), i = ix2 b s := ⟨i 0, i 1, eq_ix2 i⟩
    rw [hx.ref_env b s]
    exact (cut_cols (R := 32) (C := 4096) (p := 4094) (o := 0) _ _ b s (low s) (Nat.zero_add _).symm).trans (env_apply m c b (low s))
  unfold envRes val_main_v109
  rw [e]

/-- The precondition says the pose is finite. -/
theorem finite_of [Cert.Pre_finite.Facts] (x : S32x4096x17x3.Idx → EReal) (h : Cert.Pre_finite.fn (F := Ideal) x = fun _ => 1#1) : Finite x := by
  intro b n j k
  have e := congrFun h (ix4 b n j k)
  unfold Cert.Pre_finite.fn at e
  have cut : extractStridedSlice Cert.Pre_finite.S32x4096x17x2 ![0, 0, 0, 0] x Cert.Pre_finite.Facts.slices_S32x4096x17x3_S32x4096x17x2_0_0_0_0 (ix4 b n j k) = pt x b n j k := by
    refine extractStridedSlice_apply _ _ _ _ _ fun a => ?_
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  have e' : BitVec.ofBool (decide (max (pt x b n j k) (-(pt x b n j k)) < Ideal.ofBits .f32 0x7F800000#32)) = 1#1 := by
    rw [← cut]
    exact e
  have top : Ideal.ofBits .f32 0x7F800000#32 = ⊤ := by simp [Ideal.ofBits, Ideal.ieee, -EReal.coe_mul]
  rw [top] at e'
  have lt : max (pt x b n j k) (-(pt x b n j k)) < ⊤ := by
    by_contra hn
    rw [decide_eq_false hn] at e'
    exact absurd e' (by decide)
  have h1 : pt x b n j k ≠ ⊤ := ne_of_lt (lt_of_le_of_lt (le_max_left _ _) lt)
  have h2 : pt x b n j k ≠ ⊥ := fun hb => by
    rw [hb, EReal.neg_bot] at lt
    exact absurd (lt_of_le_of_lt (le_max_right _ _) lt) (lt_irrefl _)
  exact ⟨(pt x b n j k).toReal, (EReal.coe_toReal h1 h2).symm⟩

end Cert.Proof.Beat

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Results
public import proofs.«01_k».proof.Proof.Same
public import proofs.«01_k».proof.Proof.Peaks
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The reference runs, its argument ends as launched, and it has no semaphore to leave anything on. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
        ∧ r.2.sem = fun _ => 0) :=
  (θ_run _ _ _).mono (fun r h => ⟨fun c => (h c).2.2, sem_eq_zero_of_no_sems rfl r.2⟩) (Cert.ReferenceIdeal.Value.run m g)

/-- What the precondition's operations ask of the shapes. -/
theorem finite_facts : Cert.Pre_finite.Facts := ⟨by decide, by decide⟩

/-- The reference's run from a memory whose argument is `x`: its results are the last stages read at `x`. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v108)
            = Cert.ReferenceIdeal.Read.val_main_v108 (F := Ideal) (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_v109)
            = Cert.ReferenceIdeal.Read.val_main_v109 (F := Ideal) (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run _ _ _).mono (fun r h c => ⟨(h c).1.trans (Cert.ReferenceIdeal.Read.val_main_v108_eq _), (h c).2.1.trans (Cert.ReferenceIdeal.Read.val_main_v109_eq _), (h c).2.2⟩)
    (Cert.ReferenceIdeal.Value.run m g)

/-- On a finite pose the two idealized programs end with the same results. -/
theorem same_results : @Cert.algebraic_KernelIdeal_ReferenceIdeal_pre_finite Cert.KernelIdeal.Gen.facts Cert.ReferenceIdeal.Gen.facts finite_facts := by
  intro m g m' g' hpre hag
  refine ⟨fun c => Beat.peakRes m c, fun c => Beat.envRes m c, Beat.kernel_run m g, (θ_run _ _ _).mono (fun r h c => ?_) (reference_run m' g')⟩
  have hx := @Beat.finite_of finite_facts _ (hpre c)
  refine ⟨(h c).1.trans ?_, (h c).2.1.trans ?_, (h c).2.2⟩
  · rw [hag c]; exact (Beat.peak_eq m c hx).symm
  · rw [hag c]; exact (Beat.env_eq m c hx).symm

/-- The certificate's claim. -/
theorem claim : Cert.Claim := ⟨Cert.Kernel.Gen.facts, Cert.KernelIdeal.Gen.facts, Cert.ReferenceIdeal.Gen.facts, finite_facts,
  Same.printed_frame, fun m ρ _ => Beat.kernel_frame m ρ, fun m ρ _ => Beat.kernel_frame m ρ,
  fun m ρ _ => reference_frame m ρ, fun m ρ _ => reference_frame m ρ, trivial, same_results⟩

end Cert.Proof

end
